-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v392) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x128x56x56 : Shape := ⟨4, ![32, 128, 56, 56]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S128 : S_.BroadcastsInDim S128 (![] : Fin 0 → Fin S128.rank)
  bcast_S_S128x512 : S_.BroadcastsInDim S128x512 (![] : Fin 0 → Fin S128x512.rank)
  bcast_S_S512 : S_.BroadcastsInDim S512 (![] : Fin 0 → Fin S512.rank)

variable [Facts]

def fn {F : FTy → Type} [FloatOps F] (main_arg0 : FVec F S32x128x56x56 .f32) (main_arg1 : FVec F S128x1x7x7 .f32) (main_arg2 : FVec F S128 .f32) (main_arg3 : FVec F S128 .f32) (main_arg4 : FVec F S128 .f32) (main_arg5 : FVec F S128x512 .f32) (main_arg6 : FVec F S512 .f32) (main_arg7 : FVec F S512x128 .f32) (main_arg8 : FVec F S128 .f32) (main_arg9 : FVec F S128 .f32) : IVec S128 1 × IVec S128 1 × IVec S128x512 1 × IVec S512 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg4
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128x512 .f32 := Host.absf main_arg5
  let main_cst_1 : FVec F S_ .f32 := constant S_ .f32 0x7F800000#32
  let main_v7 : FVec F S128x512 .f32 := broadcastInDim S128x512 ![] bcast_S_S128x512 main_cst_1
  let main_v8 : IVec S128x512 1 := cmpf .olt main_v6 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  (main_v2, main_v5, main_v8, main_v11)
-- ==== Kernel.lean ====
abbrev S32x128x56x56 : Shape := ⟨4, ![32, 128, 56, 56]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S32x56x56x128 : Shape := ⟨4, ![32, 56, 56, 128]⟩
abbrev S128x7x7 : Shape := ⟨3, ![128, 7, 7]⟩
abbrev S7x7x128 : Shape := ⟨3, ![7, 7, 128]⟩
abbrev S49x128 : Shape := ⟨2, ![49, 128]⟩
abbrev S1x128 : Shape := ⟨2, ![1, 128]⟩
abbrev S1x512 : Shape := ⟨2, ![1, 512]⟩
abbrev S_ : Shape := ⟨0, ![]⟩
abbrev S1x56x56x128 : Shape := ⟨4, ![1, 56, 56, 128]⟩
abbrev S62x72x128 : Shape := ⟨3, ![62, 72, 128]⟩
abbrev S7x62x64x128 : Shape := ⟨4, ![7, 62, 64, 128]⟩
abbrev S3x72x128 : Shape := ⟨3, ![3, 72, 128]⟩
abbrev S56x3x128 : Shape := ⟨3, ![56, 3, 128]⟩
abbrev S56x56x128 : Shape := ⟨3, ![56, 56, 128]⟩
abbrev S62x64x128 : Shape := ⟨3, ![62, 64, 128]⟩
abbrev S1x62x64x128 : Shape := ⟨4, ![1, 62, 64, 128]⟩
abbrev S64x128 : Shape := ⟨2, ![64, 128]⟩
abbrev S1x1x64x128 : Shape := ⟨4, ![1, 1, 64, 128]⟩
abbrev S1x64x128 : Shape := ⟨3, ![1, 64, 128]⟩
abbrev S8x64x128 : Shape := ⟨3, ![8, 64, 128]⟩
abbrev S8x56x128 : Shape := ⟨3, ![8, 56, 128]⟩
abbrev S1x1x128 : Shape := ⟨3, ![1, 1, 128]⟩
abbrev S8x56 : Shape := ⟨2, ![8, 56]⟩
abbrev S8x56x1 : Shape := ⟨3, ![8, 56, 1]⟩
abbrev S448x128 : Shape := ⟨2, ![448, 128]⟩
abbrev S448x512 : Shape := ⟨2, ![448, 512]⟩
abbrev S1x8x56x128 : Shape := ⟨4, ![1, 8, 56, 128]⟩

abbrev nBuf : Space → Nat
  | .hbm => 28
  | .vmem => 15
  | .smem => 0
  | _ => 0

abbrev bufTy : (tb : Table) → Fin (tcTables nBuf tb) → BufTy
  | .hbm, ⟨0, _⟩ => ⟨S32x128x56x56, .f32⟩
  | .hbm, ⟨1, _⟩ => ⟨S128x1x7x7, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S128, .f32⟩
  | .hbm, ⟨10, _⟩ => ⟨S32x56x56x128, .f32⟩
  | .hbm, ⟨11, _⟩ => ⟨S128x7x7, .f32⟩
  | .hbm, ⟨12, _⟩ => ⟨S7x7x128, .f32⟩
  | .hbm, ⟨13, _⟩ => ⟨S49x128, .f32⟩
  | .hbm, ⟨14, _⟩ => ⟨S49x128, .bf16⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S128x512, .bf16⟩
  | .hbm, ⟨19, _⟩ => ⟨S1x512, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .bf16⟩
  | .hbm, ⟨24, _⟩ => ⟨S1x128, .f32⟩
  | .hbm, ⟨25, _⟩ => ⟨S1x128, .f32⟩
  | .hbm, ⟨26, _⟩ => ⟨S32x56x56x128, .f32⟩
  | .hbm, ⟨27, _⟩ => ⟨S32x128x56x56, .f32⟩
  | .local _ .vmem, ⟨0, _⟩ => ⟨S1x56x56x128, .f32⟩
  | .local _ .vmem, ⟨1, _⟩ => ⟨S1x56x56x128, .f32⟩
  | .local _ .vmem, ⟨2, _⟩ => ⟨S49x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S1x128, .f32⟩
  | .local _ .vmem, ⟨11, _⟩ => ⟨S1x56x56x128, .f32⟩
  | .local _ .vmem, ⟨12, _⟩ => ⟨S1x56x56x128, .f32⟩
  | .local _ .vmem, ⟨13, _⟩ => ⟨S62x72x128, .f32⟩
  | .local _ .vmem, ⟨14, _⟩ => ⟨S7x62x64x128, .bf16⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c6_i32 : BitVec 32 := 6#32
  let v2621 : BitVec 32 := Scalar.addi c0_i32 c6_i32
  let c1_i32 : BitVec 32 := 1#32
  ⟨c0_i32, v2621, c1_i32⟩
def k0_off1 (k0_t1 : Fin k0_t1_loop.trips) (c0_i32_1247 : BitVec 32) : Fin 4 → Nat :=
  let c0_1248 : Index := 0#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v2699 : BitVec 32 := Scalar.addi v2690 c0_i32_1247
  let v2700 : Index := Scalar.indexCast v2699
  let c0_1249 : Index := 0#32
  let c0_1250 : Index := 0#32
  ![0, v2700.toNat, 0, 0]
def k0_off2 (k0_t1 : Fin k0_t1_loop.trips) (c0_i32_1405 : BitVec 32) : Fin 4 → Nat :=
  let c1_1406 : Index := 1#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v3091 : BitVec 32 := Scalar.addi v2690 c0_i32_1405
  let v3092 : Index := Scalar.indexCast v3091
  let c0_1407 : Index := 0#32
  let c0_1408 : Index := 0#32
  ![1, v3092.toNat, 0, 0]
def k0_off3 (k0_t1 : Fin k0_t1_loop.trips) (c0_i32_1573 : BitVec 32) : Fin 4 → Nat :=
  let c2_1574 : Index := 2#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v3483 : BitVec 32 := Scalar.addi v2690 c0_i32_1573
  let v3484 : Index := Scalar.indexCast v3483
  let c0_1575 : Index := 0#32
  let c0_1576 : Index := 0#32
  ![2, v3484.toNat, 0, 0]
def k0_off4 (k0_t1 : Fin k0_t1_loop.trips) (c0_i32_1741 : BitVec 32) : Fin 4 → Nat :=
  let c3_1742 : Index := 3#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v3875 : BitVec 32 := Scalar.addi v2690 c0_i32_1741
  let v3876 : Index := Scalar.indexCast v3875
  let c0_1743 : Index := 0#32
  let c0_1744 : Index := 0#32
  ![3, v3876.toNat, 0, 0]
def k0_off5 (k0_t1 : Fin k0_t1_loop.trips) (c0_i32_1909 : BitVec 32) : Fin 4 → Nat :=
  let c4_1910 : Index := 4#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v4267 : BitVec 32 := Scalar.addi v2690 c0_i32_1909
  let v4268 : Index := Scalar.indexCast v4267
  let c0_1911 : Index := 0#32
  let c0_1912 : Index := 0#32
  ![4, v4268.toNat, 0, 0]
def k0_off6 (k0_t1 : Fin k0_t1_loop.trips) (c0_i32_2077 : BitVec 32) : Fin 4 → Nat :=
  let c5_2078 : Index := 5#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v4659 : BitVec 32 := Scalar.addi v2690 c0_i32_2077
  let v4660 : Index := Scalar.indexCast v4659
  let c0_2079 : Index := 0#32
  let c0_2080 : Index := 0#32
  ![5, v4660.toNat, 0, 0]
def k0_off7 (k0_t1 : Fin k0_t1_loop.trips) (c0_i32_2245 : BitVec 32) : Fin 4 → Nat :=
  let c6_2246 : Index := 6#32
  let c0_i32 : BitVec 32 := 0#32
  let c1_i32 : BitVec 32 := 1#32
  let arg14 : BitVec 32 := Scf.iv c0_i32 c1_i32 k0_t1
  let c1_i32_1238 : BitVec 32 := 1#32
  let v2689 : BitVec 32 := Scalar.addi arg14 c1_i32_1238
  let c8_i32 : BitVec 32 := 8#32
  let v2690 : BitVec 32 := Scalar.muli v2689 c8_i32
  let v5051 : BitVec 32 := Scalar.addi v2690 c0_i32_2245
  let v5052 : Index := Scalar.indexCast v5051
  let c0_2247 : Index := 0#32
  let c0_2248 : Index := 0#32
  ![6, v5052.toNat, 0, 0]
def k0_off8 (k0_t1 : Fin k0_t1_loop.trips) : Fin 4 → Nat :=
  let c0_2438 : Index := 0#32
  let c0_i32 : BitVec 32 := 0#32
  let c1_i32 : BitVec 32 := 1#32
  let arg14 : BitVec 32 := Scf.iv c0_i32 c1_i32 k0_t1
  let c8_i32_2413 : BitVec 32 := 8#32
  let v5452 : BitVec 32 := Scalar.muli arg14 c8_i32_2413
  let v5512 : Index := Scalar.indexCast v5452
  let c0_2439 : Index := 0#32
  let c0_2440 : Index := 0#32
  ![0, v5512.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x56x56x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x128x56x56 : Shape := ⟨4, ![32, 128, 56, 56]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S32x128x62x62 : Shape := ⟨4, ![32, 128, 62, 62]⟩
abbrev S128x1x1x1 : Shape := ⟨4, ![128, 1, 1, 1]⟩
abbrev S1x128x1x1 : Shape := ⟨4, ![1, 128, 1, 1]⟩
abbrev S32x56x56x128 : Shape := ⟨4, ![32, 56, 56, 128]⟩
abbrev S32x56x56 : Shape := ⟨3, ![32, 56, 56]⟩
abbrev S32x56x56x1 : Shape := ⟨4, ![32, 56, 56, 1]⟩
abbrev S1x1x1x128 : Shape := ⟨4, ![1, 1, 1, 128]⟩
abbrev S32x56x56x512 : Shape := ⟨4, ![32, 56, 56, 512]⟩
abbrev S1x1x1x512 : Shape := ⟨4, ![1, 1, 1, 512]⟩

abbrev nBuf : Space → Nat
  | .hbm => 413
  | .vmem => 0
  | .smem => 0
  | _ => 0

abbrev hbmTy0_0 (i : Nat) : BufTy := match i % 128 with
  | 0 => ⟨S32x128x56x56, .f32⟩
  | 1 => ⟨S128x1x7x7, .f32⟩
  | 2 => ⟨S128, .f32⟩
  | 3 => ⟨S128, .f32⟩
  | 4 => ⟨S128, .f32⟩
  | 5 => ⟨S128x512, .f32⟩
  | 6 => ⟨S512, .f32⟩
  | 7 => ⟨S512x128, .f32⟩
  | 8 => ⟨S128, .f32⟩
  | 9 => ⟨S128, .f32⟩
  | 10 => ⟨S_, .i32⟩
  | 11 => ⟨S_, .f32⟩
  | 12 => ⟨S32x128x62x62, .f32⟩
  | 13 => ⟨S_, .f32⟩
  | 14 => ⟨S32x128x56x56, .f32⟩
  | 15 => ⟨S32x128x56x56, .f32⟩
  | 16 => ⟨S128x1x1x1, .f32⟩
  | 17 => ⟨S128, .f32⟩
  | 18 => ⟨S1x128x1x1, .f32⟩
  | 19 => ⟨S32x128x56x56, .f32⟩
  | 20 => ⟨S32x128x56x56, .f32⟩
  | 21 => ⟨S32x128x56x56, .f32⟩
  | 22 => ⟨S32x128x56x56, .f32⟩
  | 23 => ⟨S128x1x1x1, .f32⟩
  | 24 => ⟨S128, .f32⟩
  | 25 => ⟨S1x128x1x1, .f32⟩
  | 26 => ⟨S32x128x56x56, .f32⟩
  | 27 => ⟨S32x128x56x56, .f32⟩
  | 28 => ⟨S32x128x56x56, .f32⟩
  | 29 => ⟨S32x128x56x56, .f32⟩
  | 30 => ⟨S128x1x1x1, .f32⟩
  | 31 => ⟨S128, .f32⟩
  | 32 => ⟨S1x128x1x1, .f32⟩
  | 33 => ⟨S32x128x56x56, .f32⟩
  | 34 => ⟨S32x128x56x56, .f32⟩
  | 35 => ⟨S32x128x56x56, .f32⟩
  | 36 => ⟨S32x128x56x56, .f32⟩
  | 37 => ⟨S128x1x1x1, .f32⟩
  | 38 => ⟨S128, .f32⟩
  | 39 => ⟨S1x128x1x1, .f32⟩
  | 40 => ⟨S32x128x56x56, .f32⟩
  | 41 => ⟨S32x128x56x56, .f32⟩
  | 42 => ⟨S32x128x56x56, .f32⟩
  | 43 => ⟨S32x128x56x56, .f32⟩
  | 44 => ⟨S128x1x1x1, .f32⟩
  | 45 => ⟨S128, .f32⟩
  | 46 => ⟨S1x128x1x1, .f32⟩
  | 47 => ⟨S32x128x56x56, .f32⟩
  | 48 => ⟨S32x128x56x56, .f32⟩
  | 49 => ⟨S32x128x56x56, .f32⟩
  | 50 => ⟨S32x128x56x56, .f32⟩
  | 51 => ⟨S128x1x1x1, .f32⟩
  | 52 => ⟨S128, .f32⟩
  | 53 => ⟨S1x128x1x1, .f32⟩
  | 54 => ⟨S32x128x56x56, .f32⟩
  | 55 => ⟨S32x128x56x56, .f32⟩
  | 56 => ⟨S32x128x56x56, .f32⟩
  | 57 => ⟨S32x128x56x56, .f32⟩
  | 58 => ⟨S128x1x1x1, .f32⟩
  | 59 => ⟨S128, .f32⟩
  | 60 => ⟨S1x128x1x1, .f32⟩
  | 61 => ⟨S32x128x56x56, .f32⟩
  | 62 => ⟨S32x128x56x56, .f32⟩
  | 63 => ⟨S32x128x56x56, .f32⟩
  | 64 => ⟨S32x128x56x56, .f32⟩
  | 65 => ⟨S128x1x1x1, .f32⟩
  | 66 => ⟨S128, .f32⟩
  | 67 => ⟨S1x128x1x1, .f32⟩
  | 68 => ⟨S32x128x56x56, .f32⟩
  | 69 => ⟨S32x128x56x56, .f32⟩
  | 70 => ⟨S32x128x56x56, .f32⟩
  | 71 => ⟨S32x128x56x56, .f32⟩
  | 72 => ⟨S128x1x1x1, .f32⟩
  | 73 => ⟨S128, .f32⟩
  | 74 => ⟨S1x128x1x1, .f32⟩
  | 75 => ⟨S32x128x56x56, .f32⟩
  | 76 => ⟨S32x128x56x56, .f32⟩
  | 77 => ⟨S32x128x56x56, .f32⟩
  | 78 => ⟨S32x128x56x56, .f32⟩
  | 79 => ⟨S128x1x1x1, .f32⟩
  | 80 => ⟨S128, .f32⟩
  | 81 => ⟨S1x128x1x1, .f32⟩
  | 82 => ⟨S32x128x56x56, .f32⟩
  | 83 => ⟨S32x128x56x56, .f32⟩
  | 84 => ⟨S32x128x56x56, .f32⟩
  | 85 => ⟨S32x128x56x56, .f32⟩
  | 86 => ⟨S128x1x1x1, .f32⟩
  | 87 => ⟨S128, .f32⟩
  | 88 => ⟨S1x128x1x1, .f32⟩
  | 89 => ⟨S32x128x56x56, .f32⟩
  | 90 => ⟨S32x128x56x56, .f32⟩
  | 91 => ⟨S32x128x56x56, .f32⟩
  | 92 => ⟨S32x128x56x56, .f32⟩
  | 93 => ⟨S128x1x1x1, .f32⟩
  | 94 => ⟨S128, .f32⟩
  | 95 => ⟨S1x128x1x1, .f32⟩
  | 96 => ⟨S32x128x56x56, .f32⟩
  | 97 => ⟨S32x128x56x56, .f32⟩
  | 98 => ⟨S32x128x56x56, .f32⟩
  | 99 => ⟨S32x128x56x56, .f32⟩
  | 100 => ⟨S128x1x1x1, .f32⟩
  | 101 => ⟨S128, .f32⟩
  | 102 => ⟨S1x128x1x1, .f32⟩
  | 103 => ⟨S32x128x56x56, .f32⟩
  | 104 => ⟨S32x128x56x56, .f32⟩
  | 105 => ⟨S32x128x56x56, .f32⟩
  | 106 => ⟨S32x128x56x56, .f32⟩
  | 107 => ⟨S128x1x1x1, .f32⟩
  | 108 => ⟨S128, .f32⟩
  | 109 => ⟨S1x128x1x1, .f32⟩
  | 110 => ⟨S32x128x56x56, .f32⟩
  | 111 => ⟨S32x128x56x56, .f32⟩
  | 112 => ⟨S32x128x56x56, .f32⟩
  | 113 => ⟨S32x128x56x56, .f32⟩
  | 114 => ⟨S128x1x1x1, .f32⟩
  | 115 => ⟨S128, .f32⟩
  | 116 => ⟨S1x128x1x1, .f32⟩
  | 117 => ⟨S32x128x56x56, .f32⟩
  | 118 => ⟨S32x128x56x56, .f32⟩
  | 119 => ⟨S32x128x56x56, .f32⟩
  | 120 => ⟨S32x128x56x56, .f32⟩
  | 121 => ⟨S128x1x1x1, .f32⟩
  | 122 => ⟨S128, .f32⟩
  | 123 => ⟨S1x128x1x1, .f32⟩
  | 124 => ⟨S32x128x56x56, .f32⟩
  | 125 => ⟨S32x128x56x56, .f32⟩
  | 126 => ⟨S32x128x56x56, .f32⟩
  | 127 => ⟨S32x128x56x56, .f32⟩
  | _ => ⟨S32x128x56x56, .f32⟩

abbrev hbmTy0_1 (i : Nat) : BufTy := match i % 128 with
  | 0 => ⟨S128x1x1x1, .f32⟩
  | 1 => ⟨S128, .f32⟩
  | 2 => ⟨S1x128x1x1, .f32⟩
  | 3 => ⟨S32x128x56x56, .f32⟩
  | 4 => ⟨S32x128x56x56, .f32⟩
  | 5 => ⟨S32x128x56x56, .f32⟩
  | 6 => ⟨S32x128x56x56, .f32⟩
  | 7 => ⟨S128x1x1x1, .f32⟩
  | 8 => ⟨S128, .f32⟩
  | 9 => ⟨S1x128x1x1, .f32⟩
  | 10 => ⟨S32x128x56x56, .f32⟩
  | 11 => ⟨S32x128x56x56, .f32⟩
  | 12 => ⟨S32x128x56x56, .f32⟩
  | 13 => ⟨S32x128x56x56, .f32⟩
  | 14 => ⟨S128x1x1x1, .f32⟩
  | 15 => ⟨S128, .f32⟩
  | 16 => ⟨S1x128x1x1, .f32⟩
  | 17 => ⟨S32x128x56x56, .f32⟩
  | 18 => ⟨S32x128x56x56, .f32⟩
  | 19 => ⟨S32x128x56x56, .f32⟩
  | 20 => ⟨S32x128x56x56, .f32⟩
  | 21 => ⟨S128x1x1x1, .f32⟩
  | 22 => ⟨S128, .f32⟩
  | 23 => ⟨S1x128x1x1, .f32⟩
  | 24 => ⟨S32x128x56x56, .f32⟩
  | 25 => ⟨S32x128x56x56, .f32⟩
  | 26 => ⟨S32x128x56x56, .f32⟩
  | 27 => ⟨S32x128x56x56, .f32⟩
  | 28 => ⟨S128x1x1x1, .f32⟩
  | 29 => ⟨S128, .f32⟩
  | 30 => ⟨S1x128x1x1, .f32⟩
  | 31 => ⟨S32x128x56x56, .f32⟩
  | 32 => ⟨S32x128x56x56, .f32⟩
  | 33 => ⟨S32x128x56x56, .f32⟩
  | 34 => ⟨S32x128x56x56, .f32⟩
  | 35 => ⟨S128x1x1x1, .f32⟩
  | 36 => ⟨S128, .f32⟩
  | 37 => ⟨S1x128x1x1, .f32⟩
  | 38 => ⟨S32x128x56x56, .f32⟩
  | 39 => ⟨S32x128x56x56, .f32⟩
  | 40 => ⟨S32x128x56x56, .f32⟩
  | 41 => ⟨S32x128x56x56, .f32⟩
  | 42 => ⟨S128x1x1x1, .f32⟩
  | 43 => ⟨S128, .f32⟩
  | 44 => ⟨S1x128x1x1, .f32⟩
  | 45 => ⟨S32x128x56x56, .f32⟩
  | 46 => ⟨S32x128x56x56, .f32⟩
  | 47 => ⟨S32x128x56x56, .f32⟩
  | 48 => ⟨S32x128x56x56, .f32⟩
  | 49 => ⟨S128x1x1x1, .f32⟩
  | 50 => ⟨S128, .f32⟩
  | 51 => ⟨S1x128x1x1, .f32⟩
  | 52 => ⟨S32x128x56x56, .f32⟩
  | 53 => ⟨S32x128x56x56, .f32⟩
  | 54 => ⟨S32x128x56x56, .f32⟩
  | 55 => ⟨S32x128x56x56, .f32⟩
  | 56 => ⟨S128x1x1x1, .f32⟩
  | 57 => ⟨S128, .f32⟩
  | 58 => ⟨S1x128x1x1, .f32⟩
  | 59 => ⟨S32x128x56x56, .f32⟩
  | 60 => ⟨S32x128x56x56, .f32⟩
  | 61 => ⟨S32x128x56x56, .f32⟩
  | 62 => ⟨S32x128x56x56, .f32⟩
  | 63 => ⟨S128x1x1x1, .f32⟩
  | 64 => ⟨S128, .f32⟩
  | 65 => ⟨S1x128x1x1, .f32⟩
  | 66 => ⟨S32x128x56x56, .f32⟩
  | 67 => ⟨S32x128x56x56, .f32⟩
  | 68 => ⟨S32x128x56x56, .f32⟩
  | 69 => ⟨S32x128x56x56, .f32⟩
  | 70 => ⟨S128x1x1x1, .f32⟩
  | 71 => ⟨S128, .f32⟩
  | 72 => ⟨S1x128x1x1, .f32⟩
  | 73 => ⟨S32x128x56x56, .f32⟩
  | 74 => ⟨S32x128x56x56, .f32⟩
  | 75 => ⟨S32x128x56x56, .f32⟩
  | 76 => ⟨S32x128x56x56, .f32⟩
  | 77 => ⟨S128x1x1x1, .f32⟩
  | 78 => ⟨S128, .f32⟩
  | 79 => ⟨S1x128x1x1, .f32⟩
  | 80 => ⟨S32x128x56x56, .f32⟩
  | 81 => ⟨S32x128x56x56, .f32⟩
  | 82 => ⟨S32x128x56x56, .f32⟩
  | 83 => ⟨S32x128x56x56, .f32⟩
  | 84 => ⟨S128x1x1x1, .f32⟩
  | 85 => ⟨S128, .f32⟩
  | 86 => ⟨S1x128x1x1, .f32⟩
  | 87 => ⟨S32x128x56x56, .f32⟩
  | 88 => ⟨S32x128x56x56, .f32⟩
  | 89 => ⟨S32x128x56x56, .f32⟩
  | 90 => ⟨S32x128x56x56, .f32⟩
  | 91 => ⟨S128x1x1x1, .f32⟩
  | 92 => ⟨S128, .f32⟩
  | 93 => ⟨S1x128x1x1, .f32⟩
  | 94 => ⟨S32x128x56x56, .f32⟩
  | 95 => ⟨S32x128x56x56, .f32⟩
  | 96 => ⟨S32x128x56x56, .f32⟩
  | 97 => ⟨S32x128x56x56, .f32⟩
  | 98 => ⟨S128x1x1x1, .f32⟩
  | 99 => ⟨S128, .f32⟩
  | 100 => ⟨S1x128x1x1, .f32⟩
  | 101 => ⟨S32x128x56x56, .f32⟩
  | 102 => ⟨S32x128x56x56, .f32⟩
  | 103 => ⟨S32x128x56x56, .f32⟩
  | 104 => ⟨S32x128x56x56, .f32⟩
  | 105 => ⟨S128x1x1x1, .f32⟩
  | 106 => ⟨S128, .f32⟩
  | 107 => ⟨S1x128x1x1, .f32⟩
  | 108 => ⟨S32x128x56x56, .f32⟩
  | 109 => ⟨S32x128x56x56, .f32⟩
  | 110 => ⟨S32x128x56x56, .f32⟩
  | 111 => ⟨S32x128x56x56, .f32⟩
  | 112 => ⟨S128x1x1x1, .f32⟩
  | 113 => ⟨S128, .f32⟩
  | 114 => ⟨S1x128x1x1, .f32⟩
  | 115 => ⟨S32x128x56x56, .f32⟩
  | 116 => ⟨S32x128x56x56, .f32⟩
  | 117 => ⟨S32x128x56x56, .f32⟩
  | 118 => ⟨S32x128x56x56, .f32⟩
  | 119 => ⟨S128x1x1x1, .f32⟩
  | 120 => ⟨S128, .f32⟩
  | 121 => ⟨S1x128x1x1, .f32⟩
  | 122 => ⟨S32x128x56x56, .f32⟩
  | 123 => ⟨S32x128x56x56, .f32⟩
  | 124 => ⟨S32x128x56x56, .f32⟩
  | 125 => ⟨S32x128x56x56, .f32⟩
  | 126 => ⟨S128x1x1x1, .f32⟩
  | 127 => ⟨S128, .f32⟩
  | _ => ⟨S32x128x56x56, .f32⟩

abbrev hbmTy0_2 (i : Nat) : BufTy := match i % 128 with
  | 0 => ⟨S1x128x1x1, .f32⟩
  | 1 => ⟨S32x128x56x56, .f32⟩
  | 2 => ⟨S32x128x56x56, .f32⟩
  | 3 => ⟨S32x128x56x56, .f32⟩
  | 4 => ⟨S32x128x56x56, .f32⟩
  | 5 => ⟨S128x1x1x1, .f32⟩
  | 6 => ⟨S128, .f32⟩
  | 7 => ⟨S1x128x1x1, .f32⟩
  | 8 => ⟨S32x128x56x56, .f32⟩
  | 9 => ⟨S32x128x56x56, .f32⟩
  | 10 => ⟨S32x128x56x56, .f32⟩
  | 11 => ⟨S32x128x56x56, .f32⟩
  | 12 => ⟨S128x1x1x1, .f32⟩
  | 13 => ⟨S128, .f32⟩
  | 14 => ⟨S1x128x1x1, .f32⟩
  | 15 => ⟨S32x128x56x56, .f32⟩
  | 16 => ⟨S32x128x56x56, .f32⟩
  | 17 => ⟨S32x128x56x56, .f32⟩
  | 18 => ⟨S32x128x56x56, .f32⟩
  | 19 => ⟨S128x1x1x1, .f32⟩
  | 20 => ⟨S128, .f32⟩
  | 21 => ⟨S1x128x1x1, .f32⟩
  | 22 => ⟨S32x128x56x56, .f32⟩
  | 23 => ⟨S32x128x56x56, .f32⟩
  | 24 => ⟨S32x128x56x56, .f32⟩
  | 25 => ⟨S32x128x56x56, .f32⟩
  | 26 => ⟨S128x1x1x1, .f32⟩
  | 27 => ⟨S128, .f32⟩
  | 28 => ⟨S1x128x1x1, .f32⟩
  | 29 => ⟨S32x128x56x56, .f32⟩
  | 30 => ⟨S32x128x56x56, .f32⟩
  | 31 => ⟨S32x128x56x56, .f32⟩
  | 32 => ⟨S32x128x56x56, .f32⟩
  | 33 => ⟨S128x1x1x1, .f32⟩
  | 34 => ⟨S128, .f32⟩
  | 35 => ⟨S1x128x1x1, .f32⟩
  | 36 => ⟨S32x128x56x56, .f32⟩
  | 37 => ⟨S32x128x56x56, .f32⟩
  | 38 => ⟨S32x128x56x56, .f32⟩
  | 39 => ⟨S32x128x56x56, .f32⟩
  | 40 => ⟨S128x1x1x1, .f32⟩
  | 41 => ⟨S128, .f32⟩
  | 42 => ⟨S1x128x1x1, .f32⟩
  | 43 => ⟨S32x128x56x56, .f32⟩
  | 44 => ⟨S32x128x56x56, .f32⟩
  | 45 => ⟨S32x128x56x56, .f32⟩
  | 46 => ⟨S32x128x56x56, .f32⟩
  | 47 => ⟨S128x1x1x1, .f32⟩
  | 48 => ⟨S128, .f32⟩
  | 49 => ⟨S1x128x1x1, .f32⟩
  | 50 => ⟨S32x128x56x56, .f32⟩
  | 51 => ⟨S32x128x56x56, .f32⟩
  | 52 => ⟨S32x128x56x56, .f32⟩
  | 53 => ⟨S32x128x56x56, .f32⟩
  | 54 => ⟨S128x1x1x1, .f32⟩
  | 55 => ⟨S128, .f32⟩
  | 56 => ⟨S1x128x1x1, .f32⟩
  | 57 => ⟨S32x128x56x56, .f32⟩
  | 58 => ⟨S32x128x56x56, .f32⟩
  | 59 => ⟨S32x128x56x56, .f32⟩
  | 60 => ⟨S32x128x56x56, .f32⟩
  | 61 => ⟨S128x1x1x1, .f32⟩
  | 62 => ⟨S128, .f32⟩
  | 63 => ⟨S1x128x1x1, .f32⟩
  | 64 => ⟨S32x128x56x56, .f32⟩
  | 65 => ⟨S32x128x56x56, .f32⟩
  | 66 => ⟨S32x128x56x56, .f32⟩
  | 67 => ⟨S32x128x56x56, .f32⟩
  | 68 => ⟨S128x1x1x1, .f32⟩
  | 69 => ⟨S128, .f32⟩
  | 70 => ⟨S1x128x1x1, .f32⟩
  | 71 => ⟨S32x128x56x56, .f32⟩
  | 72 => ⟨S32x128x56x56, .f32⟩
  | 73 => ⟨S32x128x56x56, .f32⟩
  | 74 => ⟨S32x128x56x56, .f32⟩
  | 75 => ⟨S128x1x1x1, .f32⟩
  | 76 => ⟨S128, .f32⟩
  | 77 => ⟨S1x128x1x1, .f32⟩
  | 78 => ⟨S32x128x56x56, .f32⟩
  | 79 => ⟨S32x128x56x56, .f32⟩
  | 80 => ⟨S32x128x56x56, .f32⟩
  | 81 => ⟨S32x128x56x56, .f32⟩
  | 82 => ⟨S128x1x1x1, .f32⟩
  | 83 => ⟨S128, .f32⟩
  | 84 => ⟨S1x128x1x1, .f32⟩
  | 85 => ⟨S32x128x56x56, .f32⟩
  | 86 => ⟨S32x128x56x56, .f32⟩
  | 87 => ⟨S32x128x56x56, .f32⟩
  | 88 => ⟨S32x128x56x56, .f32⟩
  | 89 => ⟨S128x1x1x1, .f32⟩
  | 90 => ⟨S128, .f32⟩
  | 91 => ⟨S1x128x1x1, .f32⟩
  | 92 => ⟨S32x128x56x56, .f32⟩
  | 93 => ⟨S32x128x56x56, .f32⟩
  | 94 => ⟨S32x128x56x56, .f32⟩
  | 95 => ⟨S32x128x56x56, .f32⟩
  | 96 => ⟨S128x1x1x1, .f32⟩
  | 97 => ⟨S128, .f32⟩
  | 98 => ⟨S1x128x1x1, .f32⟩
  | 99 => ⟨S32x128x56x56, .f32⟩
  | 100 => ⟨S32x128x56x56, .f32⟩
  | 101 => ⟨S32x128x56x56, .f32⟩
  | 102 => ⟨S1x128x1x1, .f32⟩
  | 103 => ⟨S32x128x56x56, .f32⟩
  | 104 => ⟨S32x128x56x56, .f32⟩
  | 105 => ⟨S32x56x56x128, .f32⟩
  | 106 => ⟨S_, .f32⟩
  | 107 => ⟨S32x56x56, .f32⟩
  | 108 => ⟨S32x56x56x1, .f32⟩
  | 109 => ⟨S_, .f32⟩
  | 110 => ⟨S32x56x56x1, .f32⟩
  | 111 => ⟨S32x56x56x1, .f32⟩
  | 112 => ⟨S32x56x56x128, .f32⟩
  | 113 => ⟨S32x56x56x128, .f32⟩
  | 114 => ⟨S32x56x56x128, .f32⟩
  | 115 => ⟨S_, .f32⟩
  | 116 => ⟨S32x56x56, .f32⟩
  | 117 => ⟨S32x56x56x1, .f32⟩
  | 118 => ⟨S_, .f32⟩
  | 119 => ⟨S32x56x56x1, .f32⟩
  | 120 => ⟨S32x56x56x1, .f32⟩
  | 121 => ⟨S32x56x56x128, .f32⟩
  | 122 => ⟨S32x56x56x128, .f32⟩
  | 123 => ⟨S_, .f32⟩
  | 124 => ⟨S32x56x56x1, .f32⟩
  | 125 => ⟨S32x56x56x1, .f32⟩
  | 126 => ⟨S32x56x56x1, .f32⟩
  | 127 => ⟨S32x56x56x128, .f32⟩
  | _ => ⟨S32x128x56x56, .f32⟩

abbrev hbmTy0_3 (i : Nat) : BufTy := match i % 128 with
  | 0 => ⟨S32x56x56x128, .f32⟩
  | 1 => ⟨S1x1x1x128, .f32⟩
  | 2 => ⟨S32x56x56x128, .f32⟩
  | 3 => ⟨S32x56x56x128, .f32⟩
  | 4 => ⟨S1x1x1x128, .f32⟩
  | 5 => ⟨S32x56x56x128, .f32⟩
  | 6 => ⟨S32x56x56x128, .f32⟩
  | 7 => ⟨S32x56x56x512, .f32⟩
  | 8 => ⟨S1x1x1x512, .f32⟩
  | 9 => ⟨S32x56x56x512, .f32⟩
  | 10 => ⟨S32x56x56x512, .f32⟩
  | 11 => ⟨S_, .f32⟩
  | 12 => ⟨S32x56x56x512, .f32⟩
  | 13 => ⟨S32x56x56x512, .f32⟩
  | 14 => ⟨S32x56x56x512, .f32⟩
  | 15 => ⟨S_, .f32⟩
  | 16 => ⟨S32x56x56x512, .f32⟩
  | 17 => ⟨S32x56x56x512, .f32⟩
  | 18 => ⟨S32x56x56x512, .f32⟩
  | 19 => ⟨S32x56x56x512, .f32⟩
  | 20 => ⟨S32x56x56x128, .f32⟩
  | 21 => ⟨S1x1x1x128, .f32⟩
  | 22 => ⟨S32x56x56x128, .f32⟩
  | 23 => ⟨S32x56x56x128, .f32⟩
  | 24 => ⟨S1x1x1x128, .f32⟩
  | 25 => ⟨S32x56x56x128, .f32⟩
  | 26 => ⟨S32x56x56x128, .f32⟩
  | 27 => ⟨S32x128x56x56, .f32⟩
  | 28 => ⟨S32x128x56x56, .f32⟩
  | _ => ⟨S32x128x56x56, .f32⟩

abbrev hbmTy (i : Nat) : BufTy := match i / 128 with
  | 0 => hbmTy0_0 i
  | 1 => hbmTy0_1 i
  | 2 => hbmTy0_2 i
  | 3 => hbmTy0_3 i
  | _ => ⟨S32x128x56x56, .f32⟩

abbrev bufTy : (tb : Table) → Fin (tcTables nBuf tb) → BufTy
  | .hbm, ⟨i, _⟩ => hbmTy i
  | _, _ => ⟨S32x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_v283 : Ref sig .tc := ⟨.hbm, 296, rfl⟩
abbrev main_v284 : Ref sig .tc := ⟨.hbm, 297, rfl⟩
abbrev main_v285 : Ref sig .tc := ⟨.hbm, 298, rfl⟩
abbrev main_v286 : Ref sig .tc := ⟨.hbm, 299, rfl⟩
abbrev main_v287 : Ref sig .tc := ⟨.hbm, 300, rfl⟩
abbrev main_v288 : Ref sig .tc := ⟨.hbm, 301, rfl⟩
abbrev main_v289 : Ref sig .tc := ⟨.hbm, 302, rfl⟩
abbrev main_v290 : Ref sig .tc := ⟨.hbm, 303, rfl⟩
abbrev main_v291 : Ref sig .tc := ⟨.hbm, 304, rfl⟩
abbrev main_v292 : Ref sig .tc := ⟨.hbm, 305, rfl⟩
abbrev main_v293 : Ref sig .tc := ⟨.hbm, 306, rfl⟩
abbrev main_v294 : Ref sig .tc := ⟨.hbm, 307, rfl⟩
abbrev main_v295 : Ref sig .tc := ⟨.hbm, 308, rfl⟩
abbrev main_v296 : Ref sig .tc := ⟨.hbm, 309, rfl⟩
abbrev main_v297 : Ref sig .tc := ⟨.hbm, 310, rfl⟩
abbrev main_v298 : Ref sig .tc := ⟨.hbm, 311, rfl⟩
abbrev main_v299 : Ref sig .tc := ⟨.hbm, 312, rfl⟩
abbrev main_v300 : Ref sig .tc := ⟨.hbm, 313, rfl⟩
abbrev main_v301 : Ref sig .tc := ⟨.hbm, 314, rfl⟩
abbrev main_v302 : Ref sig .tc := ⟨.hbm, 315, rfl⟩
abbrev main_v303 : Ref sig .tc := ⟨.hbm, 316, rfl⟩
abbrev main_v304 : Ref sig .tc := ⟨.hbm, 317, rfl⟩
abbrev main_v305 : Ref sig .tc := ⟨.hbm, 318, rfl⟩
abbrev main_v306 : Ref sig .tc := ⟨.hbm, 319, rfl⟩
abbrev main_v307 : Ref sig .tc := ⟨.hbm, 320, rfl⟩
abbrev main_v308 : Ref sig .tc := ⟨.hbm, 321, rfl⟩
abbrev main_v309 : Ref sig .tc := ⟨.hbm, 322, rfl⟩
abbrev main_v310 : Ref sig .tc := ⟨.hbm, 323, rfl⟩
abbrev main_v311 : Ref sig .tc := ⟨.hbm, 324, rfl⟩
abbrev main_v312 : Ref sig .tc := ⟨.hbm, 325, rfl⟩
abbrev main_v313 : Ref sig .tc := ⟨.hbm, 326, rfl⟩
abbrev main_v314 : Ref sig .tc := ⟨.hbm, 327, rfl⟩
abbrev main_v315 : Ref sig .tc := ⟨.hbm, 328, rfl⟩
abbrev main_v316 : Ref sig .tc := ⟨.hbm, 329, rfl⟩
abbrev main_v317 : Ref sig .tc := ⟨.hbm, 330, rfl⟩
abbrev main_v318 : Ref sig .tc := ⟨.hbm, 331, rfl⟩
abbrev main_v319 : Ref sig .tc := ⟨.hbm, 332, rfl⟩
abbrev main_v320 : Ref sig .tc := ⟨.hbm, 333, rfl⟩
abbrev main_v321 : Ref sig .tc := ⟨.hbm, 334, rfl⟩
abbrev main_v322 : Ref sig .tc := ⟨.hbm, 335, rfl⟩
abbrev main_v323 : Ref sig .tc := ⟨.hbm, 336, rfl⟩
abbrev main_v324 : Ref sig .tc := ⟨.hbm, 337, rfl⟩
abbrev main_v325 : Ref sig .tc := ⟨.hbm, 338, rfl⟩
abbrev main_v326 : Ref sig .tc := ⟨.hbm, 339, rfl⟩
abbrev main_v327 : Ref sig .tc := ⟨.hbm, 340, rfl⟩
abbrev main_v328 : Ref sig .tc := ⟨.hbm, 341, rfl⟩
abbrev main_v329 : Ref sig .tc := ⟨.hbm, 342, rfl⟩
abbrev main_v330 : Ref sig .tc := ⟨.hbm, 343, rfl⟩
abbrev main_v331 : Ref sig .tc := ⟨.hbm, 344, rfl⟩
abbrev main_v332 : Ref sig .tc := ⟨.hbm, 345, rfl⟩
abbrev main_v333 : Ref sig .tc := ⟨.hbm, 346, rfl⟩
abbrev main_v334 : Ref sig .tc := ⟨.hbm, 347, rfl⟩
abbrev main_v335 : Ref sig .tc := ⟨.hbm, 348, rfl⟩
abbrev main_v336 : Ref sig .tc := ⟨.hbm, 349, rfl⟩
abbrev main_v337 : Ref sig .tc := ⟨.hbm, 350, rfl⟩
abbrev main_v338 : Ref sig .tc := ⟨.hbm, 351, rfl⟩
abbrev main_v339 : Ref sig .tc := ⟨.hbm, 352, rfl⟩
abbrev main_v340 : Ref sig .tc := ⟨.hbm, 353, rfl⟩
abbrev main_v341 : Ref sig .tc := ⟨.hbm, 354, rfl⟩
abbrev main_v342 : Ref sig .tc := ⟨.hbm, 355, rfl⟩
abbrev main_v343 : Ref sig .tc := ⟨.hbm, 356, rfl⟩
abbrev main_v344 : Ref sig .tc := ⟨.hbm, 357, rfl⟩
abbrev main_v345 : Ref sig .tc := ⟨.hbm, 358, rfl⟩
abbrev main_v346 : Ref sig .tc := ⟨.hbm, 359, rfl⟩
abbrev main_v347 : Ref sig .tc := ⟨.hbm, 360, rfl⟩
abbrev main_v348 : Ref sig .tc := ⟨.hbm, 361, rfl⟩
abbrev main_cst_0 : Ref sig .tc := ⟨.hbm, 362, rfl⟩
abbrev main_v349 : Ref sig .tc := ⟨.hbm, 363, rfl⟩
abbrev main_v350 : Ref sig .tc := ⟨.hbm, 364, rfl⟩
abbrev main_cst_1 : Ref sig .tc := ⟨.hbm, 365, rfl⟩
abbrev main_v351 : Ref sig .tc := ⟨.hbm, 366, rfl⟩
abbrev main_v352 : Ref sig .tc := ⟨.hbm, 367, rfl⟩
abbrev main_v353 : Ref sig .tc := ⟨.hbm, 368, rfl⟩
abbrev main_v354 : Ref sig .tc := ⟨.hbm, 369, rfl⟩
abbrev main_v355 : Ref sig .tc := ⟨.hbm, 370, rfl⟩
abbrev main_cst_2 : Ref sig .tc := ⟨.hbm, 371, rfl⟩
abbrev main_v356 : Ref sig .tc := ⟨.hbm, 372, rfl⟩
abbrev main_v357 : Ref sig .tc := ⟨.hbm, 373, rfl⟩
abbrev main_cst_3 : Ref sig .tc := ⟨.hbm, 374, rfl⟩
abbrev main_v358 : Ref sig .tc := ⟨.hbm, 375, rfl⟩
abbrev main_v359 : Ref sig .tc := ⟨.hbm, 376, rfl⟩
abbrev main_v360 : Ref sig .tc := ⟨.hbm, 377, rfl⟩
abbrev main_v361 : Ref sig .tc := ⟨.hbm, 378, rfl⟩
abbrev main_cst_4 : Ref sig .tc := ⟨.hbm, 379, rfl⟩
abbrev main_v362 : Ref sig .tc := ⟨.hbm, 380, rfl⟩
abbrev main_v363 : Ref sig .tc := ⟨.hbm, 381, rfl⟩
abbrev main_v364 : Ref sig .tc := ⟨.hbm, 382, rfl⟩
abbrev main_v365 : Ref sig .tc := ⟨.hbm, 383, rfl⟩
abbrev main_v366 : Ref sig .tc := ⟨.hbm, 384, rfl⟩
abbrev main_v367 : Ref sig .tc := ⟨.hbm, 385, rfl⟩
abbrev main_v368 : Ref sig .tc := ⟨.hbm, 386, rfl⟩
abbrev main_v369 : Ref sig .tc := ⟨.hbm, 387, rfl⟩
abbrev main_v370 : Ref sig .tc := ⟨.hbm, 388, rfl⟩
abbrev main_v371 : Ref sig .tc := ⟨.hbm, 389, rfl⟩
abbrev main_v372 : Ref sig .tc := ⟨.hbm, 390, rfl⟩
abbrev main_v373 : Ref sig .tc := ⟨.hbm, 391, rfl⟩
abbrev main_v374 : Ref sig .tc := ⟨.hbm, 392, rfl⟩
abbrev main_v375 : Ref sig .tc := ⟨.hbm, 393, rfl⟩
abbrev main_v376 : Ref sig .tc := ⟨.hbm, 394, rfl⟩
abbrev main_cst_5 : Ref sig .tc := ⟨.hbm, 395, rfl⟩
abbrev main_v377 : Ref sig .tc := ⟨.hbm, 396, rfl⟩
abbrev main_v378 : Ref sig .tc := ⟨.hbm, 397, rfl⟩
abbrev main_v379 : Ref sig .tc := ⟨.hbm, 398, rfl⟩
abbrev main_cst_6 : Ref sig .tc := ⟨.hbm, 399, rfl⟩
abbrev main_v380 : Ref sig .tc := ⟨.hbm, 400, rfl⟩
abbrev main_v381 : Ref sig .tc := ⟨.hbm, 401, rfl⟩
abbrev main_v382 : Ref sig .tc := ⟨.hbm, 402, rfl⟩
abbrev main_v383 : Ref sig .tc := ⟨.hbm, 403, rfl⟩
abbrev main_v384 : Ref sig .tc := ⟨.hbm, 404, rfl⟩
abbrev main_v385 : Ref sig .tc := ⟨.hbm, 405, rfl⟩
abbrev main_v386 : Ref sig .tc := ⟨.hbm, 406, rfl⟩
abbrev main_v387 : Ref sig .tc := ⟨.hbm, 407, rfl⟩
abbrev main_v388 : Ref sig .tc := ⟨.hbm, 408, rfl⟩
abbrev main_v389 : Ref sig .tc := ⟨.hbm, 409, rfl⟩
abbrev main_v390 : Ref sig .tc := ⟨.hbm, 410, rfl⟩
abbrev main_v391 : Ref sig .tc := ⟨.hbm, 411, rfl⟩
abbrev main_v392 : Ref sig .tc := ⟨.hbm, 412, rfl⟩

abbrev nD : Nat := 1
abbrev τ : Topo := Topo.v7x

variable {F : FTy → Type} [FloatOps F]
-- ==== Proof.IdealFrame.lean ====
/- The run of the body of `KernelIdeal` and its frame: from any memory every argument array is left as launched.
   What the kernel computes is not read here: every window is forgotten. -/
module

public import proofs.«01_k».proof.Proof.Gen.KernelIdeal.Skeleton
public import proofs.«01_k».proof.Proof.Gen.KernelIdeal.Frame
public import proofs.«01_k».proof.Proof.Gen.KernelIdeal.Points
public import Idealize.ShloMosaic.Lib.Exec
public import Idealize.ShloMosaic.Lib.Tactic

@[expose] public section

set_option maxRecDepth 8192
set_option maxHeartbeats 4000000

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X13 : Buf (Elt F) (arg13.view.loc (c : Thread nD τ)))

/-- The buffers one trip of the loop reads, at fixed contents, and the output block, at any contents. -/
abbrev held : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg13.view.loc (c : Thread nD τ) ↦[arg13.view.set]{fullShare} X13)
    ∗ ∃ f : Buf (Elt F) (arg11.view.loc (c : Thread nD τ)), arg11.view.loc (c : Thread nD τ) ↦[arg11.view.set]{fullShare} f)

set_option warn.classDefReducibility false in
/-- The loop keeps the read buffers as they are and the output block at some contents; nothing is said of the value it carries. -/
@[sl_loop] def loopHeld (𝒱 : Variants) (bd : Option 𝒱.V) (E : Set ℕ)
    (v2429 v2473 v2511 v2543 v2563 v2569 v2571 v2577 v2583 : FVec F S64x128 .bf16) (v2584 : Vec F S1x128 .bf16) (init : FVec F S8x64x128 .bf16) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 v2429 v2473 v2511 v2543 v2563 v2569 v2571 v2577 v2583 v2584) where
  inv _ _ := held c arg1 arg2 arg3 arg4 arg5 arg6 arg7 arg8 arg9 arg10 arg11 arg13 X1 X2 X3 X4 X5 X6 X7 X8 X9 X10 X13
  step k acc := by
    have hk : k.val < 6 := Nat.lt_of_lt_of_le k.isLt k0_t1_abs.2.1
    unfold held
    sl_unfold [k0_t1_body]
    iintro ⟨H1, H2, H3, H4, H5, H6, H7, H8, H9, H10, H13, ⟨%f, H11⟩⟩
    sl_exec
    sl_step
    sl_close

/-- The body runs to its return from its staging buffers and scratch at any contents and hands them back at some contents. -/
theorem body_run (K : PUnit → sProp 𝕄) :
    iprop((∃ d, owns (c : Thread nD τ) arg1 fullShare d)
    ∗ (∃ d, owns (c : Thread nD τ) arg2 fullShare d)
    ∗ (∃ d, owns (c : Thread nD τ) arg3 fullShare d)
    ∗ (∃ d, owns (c : Thread nD τ) arg4 fullShare d)
    ∗ (∃ d, owns (c : Thread nD τ) arg5 fullShare d)
    ∗ (∃ d, owns (c : Thread nD τ) arg6 fullShare d)
    ∗ (∃ d, owns (c : Thread nD τ) arg7 fullShare d)
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (iprop((∃ d, owns (c : Thread nD τ) arg1 fullShare d)
    ∗ (∃ d, owns (c : Thread nD τ) arg2 fullShare d)
    ∗ (∃ d, owns (c : Thread nD τ) arg3 fullShare d)
    ∗ (∃ d, owns (c : Thread nD τ) arg4 fullShare d)
    ∗ (∃ d, owns (c : Thread nD τ) arg5 fullShare d)
    ∗ (∃ d, owns (c : Thread nD τ) arg6 fullShare d)
    ∗ (∃ d, owns (c : Thread nD τ) arg7 fullShare d)
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)) -∗ K ⟨⟩))
      ⊢ wp frame (wpE (defs₀ (F := F)) Variants.none c none) Set.univ
          (cc0_convnext_block (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  sl_unfold [cc0_convnext_block]
  sl_exec_parts
  sl_step
  iapply Hk
  sl_close

end Body

section Launch

variable (m : (ℓ : Loc nD τ sig) → Buf (Elt F) ℓ) (ρ : Dev nD → PrngReg)

/-- Every window is forgotten: the frame reads nothing of what the body leaves in them. -/
def forgets : Fin cfg0.W → Bool := fun _ => true

/-- The proof data: the arrays as the region finds them, nothing named of the windows after a point, the scratch at any contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What the body is called with at a point, and what it hands back: the scratch, what is owed, and every window's buffer at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

@[inherit_doc bodyPre]
def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The scratch as the region holds it: both buffers owned at some contents, and the generator register. -/
theorem scratch_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA
  rw [scopedRest0_eq]; simp only [owns_whole]

/-- The body keeps what it is called with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  iintro ⟨⟨⟨HA, HB⟩, Hg⟩, HO, H0, H1, H2, H3, H4, H5, H6, H7, H8, H9, H10⟩
  iapply (body_run c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HB]; · iexact HB
  iintro ⟨H0, H1, H2, H3, H4, H5, H6, H7, H8, H9, H10, HA, HB⟩
  isplitl [HA HB Hg]
  · isplitl [HA HB]
    · isplitl [HA]; · iexact HA
      iexact HB
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body at that point. -/
theorem defs₀_row (t : Fin cfg0.N) : defs₀ (F := F) .tc cfg0.body (cfg0.bodyArgs t (cfg0.slots t)) = bodyAt0 t := by
  unfold defs₀; rw [Defs.onTc_tc]

/-- The body's triple in the form the launch asks for. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The transposition after the region writes the result array only. -/
theorem tail_writes : ∀ ops ∈ ([hostOps1] : List (List (HloOp τ sig (Elt F)))), ∀ op ∈ ops, ∀ b : Ref sig .tc,
    Proc.devRef .tc b ∈ op.writes → b ∈ ({main_v16} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  by_contra h
  exact StableHlo.devRef_ne_of_ne (by simpa using h) hb

set_option backward.isDefEq.respectTransparency.types false in
/-- Every fair execution terminates with every unscoped buffer but the result and the windows' arrays as the region found it,
    and every semaphore counter at zero. -/
theorem run_main :
    θ_run defs (onTc (τ := τ) (main (F := F))) (s₀ m ρ)
      (fun r => Pipeline.RDat.FramePostR (cfgs 0) (fun c => (dats m 0 c).toRForget forgets) {main_v16}
        (fun c b => V0 m c (Proc.devRef .tc b)) r ∧ r.2.sem = fun _ => 0) :=
  Pipeline.θ_run_frame_around_T_forget cfgs (dats m) 0 launch0 defs₀ Variants.none forgets {main_v16} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (Q' := _) (hQ' := fun _ h => h)

/-- The frame: every argument array ends as launched and every semaphore counter ends at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨
    ((h.1 c).2 main_arg0 (by decide)).trans (V_main_arg0 m c),
    ((h.1 c).2 main_arg1 (by decide)).trans (V_main_arg1 m c),
    ((h.1 c).2 main_arg2 (by decide)).trans (V_main_arg2 m c),
    ((h.1 c).2 main_arg3 (by decide)).trans (V_main_arg3 m c),
    ((h.1 c).2 main_arg4 (by decide)).trans (V_main_arg4 m c),
    ((h.1 c).2 main_arg5 (by decide)).trans (V_main_arg5 m c),
    ((h.1 c).2 main_arg6 (by decide)).trans (V_main_arg6 m c),
    ((h.1 c).2 main_arg7 (by decide)).trans (V_main_arg7 m c),
    ((h.1 c).2 main_arg8 (by decide)).trans (V_main_arg8 m c),
    ((h.1 c).2 main_arg9 (by decide)).trans (V_main_arg9 m c)⟩, h.2⟩) (run_main m ρ)

end Launch

end Cert.KernelIdeal.Frame

end
-- ==== Proof.Strip.lean ====
/- What one strip of eight rows computes, as functions of the values loaded: the depthwise convolution of the strip, and what the
   rest of the block makes of it. The two sequences the kernel is printed in, before the loop and in a trip of it, are both these. -/
module

public import proofs.«01_k».proof.Proof.Gen.KernelIdeal.Skeleton

@[expose] public section

noncomputable section

namespace Cert.KernelIdeal.Strip

open Cert.KernelIdeal Cert.KernelIdeal.Gen
open Idealize.ShloMosaic

variable {F : FTy → Type} [FloatOps F]

/-- A tap's channel row, repeated along the 64 columns. -/
def tapRow (t : Vec F S1x128 .bf16) : FVec F S64x128 .bf16 :=
  broadcastTo S64x128 (shapeCast S1x128 (shapeCast S128 t shapeCasts_S1x128_S128) shapeCasts_S128_S1x128) broadcasts_S1x128_S64x128

/-- A line of a shifted plane times a tap. -/
def term (u : Vec F S1x1x64x128 .bf16) (t : Vec F S1x128 .bf16) : FVec F S64x128 .bf16 :=
  mulf (shapeCast S64x128 u shapeCasts_S1x1x64x128_S64x128) (tapRow t)

/-- Output row `r` of the strip, onto `a`: the seven taps of one column of the filter, on the seven lines from `r` on. -/
def convCol (u : Fin 14 → Vec F S1x1x64x128 .bf16) (t : Fin 7 → Vec F S1x128 .bf16) (r : Fin 8) (a : FVec F S64x128 .bf16) :
    FVec F S64x128 .bf16 :=
  addf (addf (addf (addf (addf (addf (addf a
    (term (u ⟨r.val, by omega⟩) (t 0)))
    (term (u ⟨r.val + 1, by omega⟩) (t 1)))
    (term (u ⟨r.val + 2, by omega⟩) (t 2)))
    (term (u ⟨r.val + 3, by omega⟩) (t 3)))
    (term (u ⟨r.val + 4, by omega⟩) (t 4)))
    (term (u ⟨r.val + 5, by omega⟩) (t 5)))
    (term (u ⟨r.val + 6, by omega⟩) (t 6))

/-- Output row `r` of the strip: the seven columns of the filter, from zero. -/
def convRow (u : Fin 7 → Fin 14 → Vec F S1x1x64x128 .bf16) (t : Fin 7 → Fin 7 → Vec F S1x128 .bf16) (r : Fin 8) :
    FVec F S64x128 .bf16 :=
  convCol (u 6) (t 6) r (convCol (u 5) (t 5) r (convCol (u 4) (t 4) r (convCol (u 3) (t 3) r
    (convCol (u 2) (t 2) r (convCol (u 1) (t 1) r (convCol (u 0) (t 0) r
      (broadcast S64x128 (Scalar.ofBits .bf16 0x0000#16))))))))

/-- The strip: its eight rows, one above the other. -/
def convStrip (u : Fin 7 → Fin 14 → Vec F S1x1x64x128 .bf16) (t : Fin 7 → Fin 7 → Vec F S1x128 .bf16) : FVec F S8x64x128 .bf16 :=
  concatenate S8x64x128 0
    [⟨S1x64x128, shapeCast S1x64x128 (convRow u t 0) shapeCasts_S64x128_S1x64x128⟩,
     ⟨S1x64x128, shapeCast S1x64x128 (convRow u t 1) shapeCasts_S64x128_S1x64x128⟩,
     ⟨S1x64x128, shapeCast S1x64x128 (convRow u t 2) shapeCasts_S64x128_S1x64x128⟩,
     ⟨S1x64x128, shapeCast S1x64x128 (convRow u t 3) shapeCasts_S64x128_S1x64x128⟩,
     ⟨S1x64x128, shapeCast S1x64x128 (convRow u t 4) shapeCasts_S64x128_S1x64x128⟩,
     ⟨S1x64x128, shapeCast S1x64x128 (convRow u t 5) shapeCasts_S64x128_S1x64x128⟩,
     ⟨S1x64x128, shapeCast S1x64x128 (convRow u t 6) shapeCasts_S64x128_S1x64x128⟩,
     ⟨S1x64x128, shapeCast S1x64x128 (convRow u t 7) shapeCasts_S64x128_S1x64x128⟩]
    concatenates_S1x64x128_S1x64x128_S1x64x128_S1x64x128_S1x64x128_S1x64x128_S1x64x128_S1x64x128_S8x64x128_d0

/-- From a strip of the convolution to the strip of the result: bias, layer norm, linear, gelu, linear, layer scale, residual. -/
def mlpStrip (s : FVec F S8x64x128 .bf16) (dwb lng lnb : Vec F S1x128 .f32) (w1 : Vec F S128x512 .bf16) (b1 : Vec F S1x512 .f32)
    (w2 : Vec F S512x128 .bf16) (b2 gamma : Vec F S1x128 .f32) (x : Vec F S1x8x56x128 .f32) : FVec F S1x8x56x128 .f32 :=
  k0_pay921 (k0_pay465 (k0_pay463 s) (k0_pay464 dwb) lng lnb w1 b1) w2 b2 gamma x

/-- The strip after the loop is computed by the same operations, cut otherwise. -/
theorem mlpStrip_last (s : FVec F S8x64x128 .bf16) (dwb lng lnb : Vec F S1x128 .f32) (w1 : Vec F S128x512 .bf16) (b1 : Vec F S1x512 .f32)
    (w2 : Vec F S512x128 .bf16) (b2 gamma : Vec F S1x128 .f32) (x : Vec F S1x8x56x128 .f32) :
    k0_pay1 (k0_pay923 (k0_pay922 s) dwb lng lnb w1 b1) w2 b2 gamma x = mlpStrip s dwb lng lnb w1 b1 w2 b2 gamma x := rfl

end Cert.KernelIdeal.Strip

end
-- ==== Proof.Trip.lean ====
/- One trip of the loop and the loop: trip `k` stores the strip its carried value gives into rows `8k ..< 8k + 8` of the output
   block and carries the convolution of strip `k + 1` on. -/
module

public import proofs.«01_k».proof.Proof.Strip
public import proofs.«01_k».proof.Proof.Gen.KernelIdeal.Frame
public import Idealize.ShloMosaic.Lib.Exec
public import Idealize.ShloMosaic.Lib.Tactic

@[expose] public section

set_option maxRecDepth 8192
set_option maxHeartbeats 4000000

noncomputable section

namespace Cert.KernelIdeal.Trip

open Cert.KernelIdeal Cert.KernelIdeal.Gen Cert.KernelIdeal.Strip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X13 : Buf (Elt F) (arg13.view.loc (c : Thread nD τ)))

/-- The offset of line `n` of a trip's fourteen in plane `j`. -/
def lineOff (k : Fin k0_t1_loop.trips) : Fin 7 → Fin 14 → Fin 4 → ℕ
  | 0, n => k0_off1 k (BitVec.ofNat 32 n.val)
  | 1, n => k0_off2 k (BitVec.ofNat 32 n.val)
  | 2, n => k0_off3 k (BitVec.ofNat 32 n.val)
  | 3, n => k0_off4 k (BitVec.ofNat 32 n.val)
  | 4, n => k0_off5 k (BitVec.ofNat 32 n.val)
  | 5, n => k0_off6 k (BitVec.ofNat 32 n.val)
  | 6, n => k0_off7 k (BitVec.ofNat 32 n.val)

theorem lineOff_inb (k : Fin k0_t1_loop.trips) (j : Fin 7) (n : Fin 14) :
    ∀ a, lineOff k j n a + S1x1x64x128.size a ≤ S7x62x64x128.size a := by
  match j with
  | 0 => exact k0_off1_inb k n
  | 1 => exact k0_off2_inb k n
  | 2 => exact k0_off3_inb k n
  | 3 => exact k0_off4_inb k n
  | 4 => exact k0_off5_inb k n
  | 5 => exact k0_off6_inb k n
  | 6 => exact k0_off7_inb k n

theorem lineOff_eq (k : Fin k0_t1_loop.trips) (j : Fin 7) (n : Fin 14) : lineOff k j n = ![j.val, 8 * k.val + n.val + 8, 0, 0] := by
  match j with
  | 0 => exact k0_off1_eq k n
  | 1 => exact k0_off2_eq k n
  | 2 => exact k0_off3_eq k n
  | 3 => exact k0_off4_eq k n
  | 4 => exact k0_off5_eq k n
  | 5 => exact k0_off6_eq k n
  | 6 => exact k0_off7_eq k n

theorem tap_inb (j i : Fin 7) : ∀ a, (![7 * i.val + j.val, 0] : Fin 2 → ℕ) a + S1x128.size a ≤ S49x128.size a := by
  revert j i; decide

/-- The taps of the filter as loaded: tap `i` of column `j` is row `7i + j`. -/
def taps (j i : Fin 7) : Vec F S1x128 .bf16 :=
  View.readAt (Elt F) arg2.view (Rect.unit (s := S49x128) ![7 * i.val + j.val, 0] S1x128.size (tap_inb j i)).toLoadRect X2

theorem line_inb (h0 : Fin 49) (j : Fin 7) (n : Fin 14) :
    ∀ a, (![j.val, h0.val + n.val, 0, 0] : Fin 4 → ℕ) a + S1x1x64x128.size a ≤ S7x62x64x128.size a := by
  revert h0 j n; decide +kernel

/-- The lines of the shifted planes as loaded, for the strip that starts at row `h0`. -/
def lines (h0 : Fin 49) (j : Fin 7) (n : Fin 14) : Vec F S1x1x64x128 .bf16 :=
  View.readAt (Elt F) arg13.view (Rect.unit (s := S7x62x64x128) ![j.val, h0.val + n.val, 0, 0] S1x1x64x128.size (line_inb h0 j n)).toLoadRect X13

/-- The convolution of strip `q`. -/
def strip (q : Fin 7) : FVec F S8x64x128 .bf16 := convStrip (lines c arg13 X13 ⟨8 * q.val, by omega⟩) (taps c arg2 X2)

/-- A load through a rectangle is settled by its offset. -/
theorem readAt_congr {off off' : Fin 4 → ℕ} (e : off = off')
    (h : ∀ a, off a + S1x1x64x128.size a ≤ S7x62x64x128.size a) (h' : ∀ a, off' a + S1x1x64x128.size a ≤ S7x62x64x128.size a) :
    View.readAt (Elt F) arg13.view (Rect.unit (s := S7x62x64x128) off S1x1x64x128.size h).toLoadRect X13
      = View.readAt (Elt F) arg13.view (Rect.unit (s := S7x62x64x128) off' S1x1x64x128.size h').toLoadRect X13 := by
  subst e; rfl

theorem out_inb (q : Fin 7) : ∀ a, (![0, 8 * q.val, 0, 0] : Fin 4 → ℕ) a + S1x8x56x128.size a ≤ S1x56x56x128.size a := by
  revert q; decide

/-- The rows of strip `q` in the block of the input and of the output. -/
abbrev rows (q : Fin 7) : Rect S1x56x56x128 := Rect.unit (s := S1x56x56x128) ![0, 8 * q.val, 0, 0] S1x8x56x128.size (out_inb q)

/-- What strip `q` of the output block is stored as, from its convolution. -/
def outStrip (s : FVec F S8x64x128 .bf16) (q : Fin 7) : FVec F S1x8x56x128 .f32 :=
  mlpStrip s
    (View.readAt (Elt F) arg3.view (Rect.unit (s := S1x128) ![0, 0] S1x128.size inb_S1x128_S1x128_0_0).toLoadRect X3)
    (View.readAt (Elt F) arg4.view (Rect.unit (s := S1x128) ![0, 0] S1x128.size inb_S1x128_S1x128_0_0).toLoadRect X4)
    (View.readAt (Elt F) arg5.view (Rect.unit (s := S1x128) ![0, 0] S1x128.size inb_S1x128_S1x128_0_0).toLoadRect X5)
    (View.readAt (Elt F) arg6.view (Rect.unit (s := S128x512) ![0, 0] S128x512.size inb_S128x512_S128x512_0_0).toLoadRect X6)
    (View.readAt (Elt F) arg7.view (Rect.unit (s := S1x512) ![0, 0] S1x512.size inb_S1x512_S1x512_0_0).toLoadRect X7)
    (View.readAt (Elt F) arg8.view (Rect.unit (s := S512x128) ![0, 0] S512x128.size inb_S512x128_S512x128_0_0).toLoadRect X8)
    (View.readAt (Elt F) arg9.view (Rect.unit (s := S1x128) ![0, 0] S1x128.size inb_S1x128_S1x128_0_0).toLoadRect X9)
    (View.readAt (Elt F) arg10.view (Rect.unit (s := S1x128) ![0, 0] S1x128.size inb_S1x128_S1x128_0_0).toLoadRect X10)
    (View.readAt (Elt F) arg1.view (rows q).toLoadRect X1)

/-- What the loop carries after `k` trips, from `init`: the convolution of strip `k` once a trip has run. -/
def carried (init : FVec F S8x64x128 .bf16) : ℕ → FVec F S8x64x128 .bf16
  | 0 => init
  | k + 1 => if h : k + 1 < 7 then strip c arg2 arg13 X2 X13 ⟨k + 1, h⟩ else init

/-- The strips stored by the first `k` trips, the last first. -/
def pieces (init : FVec F S8x64x128 .bf16) : ℕ → List (View.Piece (Elt F) S1x56x56x128 .f32)
  | 0 => []
  | k + 1 => if h : k < 7 then
      ⟨rows ⟨k, h⟩, outStrip c arg1 arg3 arg4 arg5 arg6 arg7 arg8 arg9 arg10 X1 X3 X4 X5 X6 X7 X8 X9 X10 (carried c arg2 arg13 X2 X13 init k) ⟨k, h⟩⟩ :: pieces init k
    else pieces init k

/-- The buffers a trip reads, at their contents. -/
abbrev readBufs : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg13.view.loc (c : Thread nD τ) ↦[arg13.view.set]{fullShare} X13))

set_option backward.proofsInPublic true in
/-- One trip run from its carried value: what it yields and what it stores. -/
def tripRun (𝒱 : Variants) (bd : Option 𝒱.V) (v2429 v2473 v2511 v2543 v2563 v2569 v2571 v2577 v2583 : FVec F S64x128 .bf16) (v2584 : Vec F S1x128 .bf16) (k : Fin k0_t1_loop.trips) :
    Σ' R : FVec F S8x64x128 .bf16 → FVec F S8x64x128 .bf16, { L : FVec F S8x64x128 .bf16 → List (View.Piece (Elt F) S1x56x56x128 .f32) //
      ∀ (E : Set ℕ) (acc : FVec F S8x64x128 .bf16) (f : Buf (Elt F) (arg11.view.loc (c : Thread nD τ))),
        iprop(readBufs c arg1 arg2 arg3 arg4 arg5 arg6 arg7 arg8 arg9 arg10 arg13 X1 X2 X3 X4 X5 X6 X7 X8 X9 X10 X13 ∗ arg11.view.loc (c : Thread nD τ) ↦[arg11.view.set]{fullShare} f)
          ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v2429 v2473 v2511 v2543 v2563 v2569 v2571 v2577 v2583 v2584 k acc)
            (fun y => iprop(⌜y = R acc⌝ ∗ readBufs c arg1 arg2 arg3 arg4 arg5 arg6 arg7 arg8 arg9 arg10 arg13 X1 X2 X3 X4 X5 X6 X7 X8 X9 X10 X13
              ∗ arg11.view.loc (c : Thread nD τ) ↦[arg11.view.set]{fullShare} arg11.view.writes (Elt F) f (L acc))) } := by
  have hk : k.val < 6 := Nat.lt_of_lt_of_le k.isLt k0_t1_abs.2.1
  refine ⟨?_, ?_, fun E acc f => ?run⟩
  case run =>
    sl_unfold [k0_t1_body]
    iintro ⟨⟨H1, H2, H3, H4, H5, H6, H7, H8, H9, H10, H13⟩, H11⟩
    sl_exec
    sl_step
    isplitr; swap
    · sl_close
    ipureintro; rfl

/-- The piece stored at an offset that is the strip's. -/
theorem piece_congr (s : FVec F S8x64x128 .bf16) (q : Fin 7) {off : Fin 4 → ℕ} (e : off = ![0, 8 * q.val, 0, 0]) (h : ∀ a, off a + S1x8x56x128.size a ≤ S1x56x56x128.size a) :
    ([⟨Rect.unit (s := S1x56x56x128) off S1x8x56x128.size h, mlpStrip s
    (View.readAt (Elt F) arg3.view (Rect.unit (s := S1x128) ![0, 0] S1x128.size inb_S1x128_S1x128_0_0).toLoadRect X3)
    (View.readAt (Elt F) arg4.view (Rect.unit (s := S1x128) ![0, 0] S1x128.size inb_S1x128_S1x128_0_0).toLoadRect X4)
    (View.readAt (Elt F) arg5.view (Rect.unit (s := S1x128) ![0, 0] S1x128.size inb_S1x128_S1x128_0_0).toLoadRect X5)
    (View.readAt (Elt F) arg6.view (Rect.unit (s := S128x512) ![0, 0] S128x512.size inb_S128x512_S128x512_0_0).toLoadRect X6)
    (View.readAt (Elt F) arg7.view (Rect.unit (s := S1x512) ![0, 0] S1x512.size inb_S1x512_S1x512_0_0).toLoadRect X7)
    (View.readAt (Elt F) arg8.view (Rect.unit (s := S512x128) ![0, 0] S512x128.size inb_S512x128_S512x128_0_0).toLoadRect X8)
    (View.readAt (Elt F) arg9.view (Rect.unit (s := S1x128) ![0, 0] S1x128.size inb_S1x128_S1x128_0_0).toLoadRect X9)
    (View.readAt (Elt F) arg10.view (Rect.unit (s := S1x128) ![0, 0] S1x128.size inb_S1x128_S1x128_0_0).toLoadRect X10)
    (View.readAt (Elt F) arg1.view (Rect.unit (s := S1x56x56x128) off S1x8x56x128.size h).toLoadRect X1)⟩] : List (View.Piece (Elt F) S1x56x56x128 .f32))
      = [⟨rows q, outStrip c arg1 arg3 arg4 arg5 arg6 arg7 arg8 arg9 arg10 X1 X3 X4 X5 X6 X7 X8 X9 X10 s q⟩] := by
  subst e; rfl

theorem trips_le (k : Fin k0_t1_loop.trips) : k.val < 6 := Nat.lt_of_lt_of_le k.isLt k0_t1_abs.2.1

/-- A trip yields the convolution of the next strip, whatever it is given. -/
theorem tripRun_yield (𝒱 : Variants) (bd : Option 𝒱.V) (v2429 v2473 v2511 v2543 v2563 v2569 v2571 v2577 v2583 : FVec F S64x128 .bf16) (v2584 : Vec F S1x128 .bf16)
    (k : Fin k0_t1_loop.trips) (acc : FVec F S8x64x128 .bf16) :
    (tripRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k).1 acc = strip c arg2 arg13 X2 X13 ⟨k.val + 1, by have := trips_le k; omega⟩ := by
  have h : (tripRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k).1 acc
      = convStrip (fun j n => View.readAt (Elt F) arg13.view (Rect.unit (s := S7x62x64x128) (lineOff k j n) S1x1x64x128.size (lineOff_inb k j n)).toLoadRect X13)
          (taps c arg2 X2) := rfl
  rw [h]
  refine congrArg (fun u => convStrip u (taps c arg2 X2)) (funext fun j => funext fun n => ?_)
  refine readAt_congr c arg13 X13 ((lineOff_eq k j n).trans ?_) _ _
  have e : 8 * k.val + n.val + 8 = 8 * (k.val + 1) + n.val := by omega
  rw [e]

/-- A trip stores one piece: the strip its carried value gives. -/
theorem tripRun_stores (𝒱 : Variants) (bd : Option 𝒱.V) (v2429 v2473 v2511 v2543 v2563 v2569 v2571 v2577 v2583 : FVec F S64x128 .bf16) (v2584 : Vec F S1x128 .bf16)
    (k : Fin k0_t1_loop.trips) (acc : FVec F S8x64x128 .bf16) :
    (tripRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k).2.1 acc = [⟨rows ⟨k.val, by have := trips_le k; omega⟩, outStrip c arg1 arg3 arg4 arg5 arg6 arg7 arg8 arg9 arg10 X1 X3 X4 X5 X6 X7 X8 X9 X10 acc ⟨k.val, by have := trips_le k; omega⟩⟩] := by
  exact piece_congr c arg1 arg3 arg4 arg5 arg6 arg7 arg8 arg9 arg10 X1 X3 X4 X5 X6 X7 X8 X9 X10 acc ⟨k.val, by have := trips_le k; omega⟩ (k0_off8_eq k) (k0_off8_inb k)

theorem carried_succ (init : FVec F S8x64x128 .bf16) (k : ℕ) (h : k + 1 < 7) :
    carried c arg2 arg13 X2 X13 init (k + 1) = strip c arg2 arg13 X2 X13 ⟨k + 1, h⟩ := dif_pos h

theorem pieces_succ (init : FVec F S8x64x128 .bf16) (k : ℕ) (h : k < 7) :
    pieces c arg1 arg2 arg3 arg4 arg5 arg6 arg7 arg8 arg9 arg10 arg13 X1 X2 X3 X4 X5 X6 X7 X8 X9 X10 X13 init (k + 1)
      = ⟨rows ⟨k, h⟩, outStrip c arg1 arg3 arg4 arg5 arg6 arg7 arg8 arg9 arg10 X1 X3 X4 X5 X6 X7 X8 X9 X10 (carried c arg2 arg13 X2 X13 init k) ⟨k, h⟩⟩ :: pieces c arg1 arg2 arg3 arg4 arg5 arg6 arg7 arg8 arg9 arg10 arg13 X1 X2 X3 X4 X5 X6 X7 X8 X9 X10 X13 init k :=
  dif_pos h

/-- What holds before trip `k`: the read buffers as they were, the output block with the strips of the trips before stored. -/
def inv (init : FVec F S8x64x128 .bf16) (k : ℕ) (acc : FVec F S8x64x128 .bf16) : sProp 𝕄 :=
  iprop(⌜acc = carried c arg2 arg13 X2 X13 init k⌝ ∗ readBufs c arg1 arg2 arg3 arg4 arg5 arg6 arg7 arg8 arg9 arg10 arg13 X1 X2 X3 X4 X5 X6 X7 X8 X9 X10 X13
    ∗ ∃ f, arg11.view.loc (c : Thread nD τ) ↦[arg11.view.set]{fullShare} arg11.view.writes (Elt F) f (pieces c arg1 arg2 arg3 arg4 arg5 arg6 arg7 arg8 arg9 arg10 arg13 X1 X2 X3 X4 X5 X6 X7 X8 X9 X10 X13 init k))

/-- A trip takes what holds before it to what holds before the next. -/
theorem inv_step (𝒱 : Variants) (bd : Option 𝒱.V) (v2429 v2473 v2511 v2543 v2563 v2569 v2571 v2577 v2583 : FVec F S64x128 .bf16) (v2584 : Vec F S1x128 .bf16)
    (init : FVec F S8x64x128 .bf16) (E : Set ℕ) (k : Fin k0_t1_loop.trips) (acc : FVec F S8x64x128 .bf16) :
    inv c arg1 arg2 arg3 arg4 arg5 arg6 arg7 arg8 arg9 arg10 arg11 arg13 X1 X2 X3 X4 X5 X6 X7 X8 X9 X10 X13 init k.val acc
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 v2429 v2473 v2511 v2543 v2563 v2569 v2571 v2577 v2583 v2584 k acc)
          (fun y => inv c arg1 arg2 arg3 arg4 arg5 arg6 arg7 arg8 arg9 arg10 arg11 arg13 X1 X2 X3 X4 X5 X6 X7 X8 X9 X10 X13 init (k.val + 1) y) := by
  have hk := trips_le k
  have hy := tripRun_yield c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k
  have hs := tripRun_stores c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k
  have hrun := (tripRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k).2.2
  revert hy hs hrun
  generalize tripRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 k = T
  intro hy hs hrun
  have hsucc : carried c arg2 arg13 X2 X13 init (k.val + 1) = _ := carried_succ c arg2 arg13 X2 X13 init k.val (by omega)
  have hp := pieces_succ c arg1 arg2 arg3 arg4 arg5 arg6 arg7 arg8 arg9 arg10 arg13 X1 X2 X3 X4 X5 X6 X7 X8 X9 X10 X13 init k.val (by omega)
  unfold inv
  iintro ⟨%hacc, Hr, ⟨%f, H11⟩⟩
  have ew : arg11.view.writes (Elt F) (arg11.view.writes (Elt F) f (pieces c arg1 arg2 arg3 arg4 arg5 arg6 arg7 arg8 arg9 arg10 arg13 X1 X2 X3 X4 X5 X6 X7 X8 X9 X10 X13 init k.val)) (T.2.1 acc)
      = arg11.view.writes (Elt F) f (pieces c arg1 arg2 arg3 arg4 arg5 arg6 arg7 arg8 arg9 arg10 arg13 X1 X2 X3 X4 X5 X6 X7 X8 X9 X10 X13 init (k.val + 1)) := by
    rw [hs acc, hp, hacc]; rfl
  have key := (hrun E acc (arg11.view.writes (Elt F) f (pieces c arg1 arg2 arg3 arg4 arg5 arg6 arg7 arg8 arg9 arg10 arg13 X1 X2 X3 X4 X5 X6 X7 X8 X9 X10 X13 init k.val))).trans
    (wp_mono _ _ _ (Q' := fun y => iprop(⌜y = carried c arg2 arg13 X2 X13 init (k.val + 1)⌝ ∗ readBufs c arg1 arg2 arg3 arg4 arg5 arg6 arg7 arg8 arg9 arg10 arg13 X1 X2 X3 X4 X5 X6 X7 X8 X9 X10 X13
      ∗ ∃ f, arg11.view.loc (c : Thread nD τ) ↦[arg11.view.set]{fullShare} arg11.view.writes (Elt F) f (pieces c arg1 arg2 arg3 arg4 arg5 arg6 arg7 arg8 arg9 arg10 arg13 X1 X2 X3 X4 X5 X6 X7 X8 X9 X10 X13 init (k.val + 1)))) fun y => by
      rw [ew, hy acc, ← hsucc]
      iintro ⟨%hR, Hr, H11⟩
      isplitr
      · ipureintro; exact hR
      isplitl [Hr]
      · iexact Hr
      iexists f
      iexact H11)
  iapply key
  isplitl [Hr]
  · iexact Hr
  iexact H11

set_option warn.classDefReducibility false in
/-- The loop keeps `inv`. -/
@[sl_loop] def loopInv (𝒱 : Variants) (bd : Option 𝒱.V) (E : Set ℕ)
    (v2429 v2473 v2511 v2543 v2563 v2569 v2571 v2577 v2583 : FVec F S64x128 .bf16) (v2584 : Vec F S1x128 .bf16) (init : FVec F S8x64x128 .bf16) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 v2429 v2473 v2511 v2543 v2563 v2569 v2571 v2577 v2583 v2584) where
  inv k acc := inv c arg1 arg2 arg3 arg4 arg5 arg6 arg7 arg8 arg9 arg10 arg11 arg13 X1 X2 X3 X4 X5 X6 X7 X8 X9 X10 X13 init k acc
  step k acc := by
    refine (inv_step c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X13 𝒱 bd v2429 v2473 v2511 v2543 v2563 v2569 v2571 v2577 v2583 v2584 init E k acc).trans ?_
    exact wp_mono _ _ _ fun _ => .rfl

end Body

end Cert.KernelIdeal.Trip

end
-- ==== Proof.Body.lean ====
/- The body run: from its buffers at given contents it ends with the seven strips stored in the output block, the shifted planes in
   the second scratch, and what it reads as it was. -/
module

public import proofs.«01_k».proof.Proof.Trip
public import Idealize.ShloMosaic.Lib.Exec
public import Idealize.ShloMosaic.Lib.Tactic

@[expose] public section

set_option maxRecDepth 8192
set_option maxHeartbeats 4000000

noncomputable section

namespace Cert.KernelIdeal.Body

open Cert.KernelIdeal Cert.KernelIdeal.Gen Cert.KernelIdeal.Strip Cert.KernelIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X11 : Buf (Elt F) (arg11.view.loc (c : Thread nD τ)))
  (X12 : Buf (Elt F) (arg12.view.loc (c : Thread nD τ)))
  (X13 : Buf (Elt F) (arg13.view.loc (c : Thread nD τ)))

set_option backward.proofsInPublic true in
/-- The run: what it leaves in the second scratch, the carried value it enters the loop with, and the strip stored last. -/
def bodyRun : Σ' (Y : Buf (Elt F) (arg13.view.loc (c : Thread nD τ))), { L : List (View.Piece (Elt F) S1x56x56x128 .f32) // ∀ K : PUnit → sProp 𝕄,
      iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
        ∗ ((readBufs c arg1 arg2 arg3 arg4 arg5 arg6 arg7 arg8 arg9 arg10 arg13 X1 X2 X3 X4 X5 X6 X7 X8 X9 X10 Y
            ∗ (∃ f, arg12.view.loc (c : Thread nD τ) ↦[arg12.view.set]{fullShare} f)
            ∗ ∃ f, arg11.view.loc (c : Thread nD τ) ↦[arg11.view.set]{fullShare} arg11.view.writes (Elt F) f L) -∗ K ⟨⟩))
      ⊢ wp frame (wpE (defs₀ (F := F)) Variants.none c none) Set.univ (cc0_convnext_block (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun K => ?run⟩
  case run =>
    iintro ⟨H1, H2, H3, H4, H5, H6, H7, H8, H9, H10, H11, H12, H13, HK⟩
    sl_unfold [cc0_convnext_block]
    sl_exec_parts
    sl_step
    iapply HK
    sl_close

theorem trips_six : Scf.trips k0_t1_loop.lb k0_t1_loop.ub k0_t1_loop.st = 6 := by decide +kernel

end Body

end Cert.KernelIdeal.Body

end
-- ==== Proof.BodyValue.lean ====
/- The strips the body leaves: strip `q` is the convolution of strip `q` of the shifted planes, put through the rest of the block. -/
module

public import proofs.«01_k».proof.Proof.Body
public import Idealize.ShloMosaic.Lib.Exec
public import Idealize.ShloMosaic.Lib.Tactic

@[expose] public section

set_option maxRecDepth 8192
set_option maxHeartbeats 4000000

noncomputable section

namespace Cert.KernelIdeal.Body

open Cert.KernelIdeal Cert.KernelIdeal.Gen Cert.KernelIdeal.Strip Cert.KernelIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X11 : Buf (Elt F) (arg11.view.loc (c : Thread nD τ)))
  (X12 : Buf (Elt F) (arg12.view.loc (c : Thread nD τ)))
  (X13 : Buf (Elt F) (arg13.view.loc (c : Thread nD τ)))

/-- The shifted planes the body leaves in the second scratch. -/
def planes : Buf (Elt F) (arg13.view.loc (c : Thread nD τ)) :=
  arg13.view.writes (Elt F) arg13.view.junk (bodyRun.sl.H13_7 c arg1 arg12 X1 X12)

/-- The value carried into the loop, as the body computes it. -/
def init : FVec F S8x64x128 .bf16 :=
  (k0_pay920 (bodyRun.sl.r_391 c arg1 arg2 arg12 arg13 X1 X2 X12)
            (bodyRun.sl.r_400 c arg1 arg2 arg12 arg13 X1 X2 X12) (bodyRun.sl.r_407 c arg1 arg2 arg12 arg13 X1 X2 X12)
            (bodyRun.sl.r_412 c arg1 arg2 arg12 arg13 X1 X2 X12) (bodyRun.sl.r_413 c arg1 arg2 arg12 arg13 X1 X2 X12)
            (bodyRun.sl.r_414 c arg1 arg2 arg12 arg13 X1 X2 X12) (bodyRun.sl.r_415 c arg1 arg12 arg13 X1 X12)
            (bodyRun.sl.r_416 c arg1 arg2 arg12 arg13 X1 X2 X12) (bodyRun.sl.r_417 c arg1 arg2 arg12 arg13 X1 X2 X12)
            (bodyRun.sl.r_418 c arg2 X2) (bodyRun.sl.v2590 c arg1 arg12 arg13 X1 X12)
            (View.readAt (Elt F) arg2.view (Rect.unit (s := S49x128) ![41, 0] S1x128.size inb_S49x128_S1x128_41_0).toLoadRect X2)
            (View.readAt (Elt F) arg2.view (Rect.unit (s := S49x128) ![48, 0] S1x128.size inb_S49x128_S1x128_48_0).toLoadRect X2)
            (bodyRun.sl.v2604 c arg1 arg12 arg13 X1 X12)
            (View.readAt (Elt F) arg2.view (Rect.unit (s := S49x128) ![48, 0] S1x128.size inb_S49x128_S1x128_48_0).toLoadRect X2))

/-- The value carried into the loop is the convolution of the first strip. -/
theorem init_eq : init c arg1 arg2 arg12 arg13 X1 X2 X12 = strip c arg2 arg13 X2 (planes c arg1 arg12 arg13 X1 X12) 0 := by
  rfl

theorem planes_eq : (bodyRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X11 X12 X13).1 = (planes c arg1 arg12 arg13 X1 X12) := rfl

/-- The pieces stored, with what the loop ends at left as the loop states it. -/
theorem stored_eq :
    (bodyRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X11 X12 X13).2.1 = ⟨Rect.unit (s := S1x56x56x128) ![0, 48, 0, 0] S1x8x56x128.size inb_S1x56x56x128_S1x8x56x128_0_48_0_0,
        k0_pay1 (k0_pay923 (k0_pay922 (carried c arg2 arg13 X2 (planes c arg1 arg12 arg13 X1 X12) (init c arg1 arg2 arg12 arg13 X1 X2 X12) (Scf.trips k0_t1_loop.lb k0_t1_loop.ub k0_t1_loop.st)))
          (View.readAt (Elt F) arg3.view (Rect.unit (s := S1x128) ![0, 0] S1x128.size inb_S1x128_S1x128_0_0).toLoadRect X3)
          (View.readAt (Elt F) arg4.view (Rect.unit (s := S1x128) ![0, 0] S1x128.size inb_S1x128_S1x128_0_0).toLoadRect X4)
          (View.readAt (Elt F) arg5.view (Rect.unit (s := S1x128) ![0, 0] S1x128.size inb_S1x128_S1x128_0_0).toLoadRect X5)
          (View.readAt (Elt F) arg6.view (Rect.unit (s := S128x512) ![0, 0] S128x512.size inb_S128x512_S128x512_0_0).toLoadRect X6)
          (View.readAt (Elt F) arg7.view (Rect.unit (s := S1x512) ![0, 0] S1x512.size inb_S1x512_S1x512_0_0).toLoadRect X7))
          (View.readAt (Elt F) arg8.view (Rect.unit (s := S512x128) ![0, 0] S512x128.size inb_S512x128_S512x128_0_0).toLoadRect X8)
          (View.readAt (Elt F) arg9.view (Rect.unit (s := S1x128) ![0, 0] S1x128.size inb_S1x128_S1x128_0_0).toLoadRect X9)
          (View.readAt (Elt F) arg10.view (Rect.unit (s := S1x128) ![0, 0] S1x128.size inb_S1x128_S1x128_0_0).toLoadRect X10)
          (View.readAt (Elt F) arg1.view
              (Rect.unit (s := S1x56x56x128) ![0, 48, 0, 0] S1x8x56x128.size inb_S1x56x56x128_S1x8x56x128_0_48_0_0).toLoadRect X1)⟩
      :: pieces c arg1 arg2 arg3 arg4 arg5 arg6 arg7 arg8 arg9 arg10 arg13 X1 X2 X3 X4 X5 X6 X7 X8 X9 X10 (planes c arg1 arg12 arg13 X1 X12) (init c arg1 arg2 arg12 arg13 X1 X2 X12) (Scf.trips k0_t1_loop.lb k0_t1_loop.ub k0_t1_loop.st) := rfl

/-- The pieces stored: strip 6 last, onto the six of the loop. -/
theorem stored : (bodyRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X11 X12 X13).2.1
    = ⟨rows 6, outStrip c arg1 arg3 arg4 arg5 arg6 arg7 arg8 arg9 arg10 X1 X3 X4 X5 X6 X7 X8 X9 X10 (strip c arg2 arg13 X2 (planes c arg1 arg12 arg13 X1 X12) 6) 6⟩
      :: pieces c arg1 arg2 arg3 arg4 arg5 arg6 arg7 arg8 arg9 arg10 arg13 X1 X2 X3 X4 X5 X6 X7 X8 X9 X10 (planes c arg1 arg12 arg13 X1 X12) (strip c arg2 arg13 X2 (planes c arg1 arg12 arg13 X1 X12) 0) 6 := by
  rw [stored_eq, trips_six, init_eq, carried_succ c arg2 arg13 X2 (planes c arg1 arg12 arg13 X1 X12) _ 5 (by omega)]
  rfl

end Body

end Cert.KernelIdeal.Body

end
-- ==== Proof.Spec.lean ====
/- The block's mathematics at one pixel, over the extended reals: layer norm of a channel row, the hidden row, and what the second
   linear layer, the layer scale and the residual make of a hidden row; and the depthwise convolution of a zero-padded image. -/
module

public import Idealize.ShloMosaic.PureOps.Ideal

@[expose] public section

noncomputable section

namespace Cert.Spec

open Idealize.ShloMosaic

/-- The mean of a channel row. -/
def mean (v : Fin 128 → EReal) : EReal := Ideal.div (∑ k, v k) (Ideal.ofBits .f32 0x43000000#32)

/-- The variance of a channel row. -/
def var (v : Fin 128 → EReal) : EReal := mean fun k => (v k - mean v) * (v k - mean v)

/-- The channel row less its mean, over its standard deviation. -/
def normed (v : Fin 128 → EReal) (k : Fin 128) : EReal :=
  (v k - mean v) * Ideal.rsqrt (var v + Ideal.ofBits .f32 0x358637BD#32)

/-- The hidden row: the first linear layer on the normed, scaled and shifted channel row. -/
def hidden (v g b : Fin 128 → EReal) (w1 : Fin 128 → Fin 512 → EReal) (b1 : Fin 512 → EReal) (f : Fin 512) : EReal :=
  (∑ k, (normed v k * g k + b k) * w1 k f) + b1 f

/-- The kernel's activation: twice gelu. -/
def act (h : EReal) : EReal := h + h * Ideal.erf (h * Ideal.ofBits .f32 0x3F3504F3#32)

/-- A channel of the result from the hidden row: second linear layer, layer scale, residual. -/
def out (x : EReal) (h : Fin 512 → EReal) (w2 : Fin 512 → EReal) (b2 gamma : EReal) : EReal :=
  x + ((∑ f, act (h f) * w2 f) + b2) * gamma

/-- The image at row `a - 3` and column `b - 3`, zero outside it. -/
def padded (x : Fin 56 → Fin 56 → EReal) (a b : ℕ) : EReal :=
  if h : (3 ≤ a ∧ a < 59) ∧ (3 ≤ b ∧ b < 59) then x ⟨a - 3, by omega⟩ ⟨b - 3, by omega⟩ else 0

/-- The convolution of one channel at row `h`, column `w`, with the filter's taps `t i j`, column by column of the filter. -/
def conv (x : Fin 56 → Fin 56 → EReal) (t : Fin 7 → Fin 7 → EReal) (h w : ℕ) : EReal :=
  ∑ j : Fin 7, ∑ i : Fin 7, padded x (h + i.val) (w + j.val) * t i j

end Cert.Spec

end
-- ==== Proof.StripValue.lean ====
/- A strip at an index, over the extended reals: the convolution as a double sum over the filter, and a pixel of the strip's result as
   the block's mathematics on the pixel's channel row. -/
module

public import proofs.«01_k».proof.Proof.Strip
public import proofs.«01_k».proof.Proof.Spec
public import Idealize.ShloMosaic.Lib.Pointwise
public import Idealize.ShloMosaic.Lib.Pipeline.Value
public import Idealize.ShloMosaic.PureOps.Ideal

@[expose] public section

noncomputable section

namespace Cert.KernelIdeal.Strip

open Cert.KernelIdeal Cert.KernelIdeal.Gen
open Idealize.ShloMosaic Idealize.ShloMosaic.Pointwise

/-- A product of a line and a tap, at a column and a channel. -/
theorem term_apply (u : Vec Ideal S1x1x64x128 .bf16) (t : Vec Ideal S1x128 .bf16) (w : Fin 64) (c : Fin 128) :
    term u t (ix2 w c) = u (ix4 0 0 w c) * t (ix2 0 c) := by
  pointwise [term, tapRow]

/-- A row of the strip is the double sum over the filter. -/
theorem convRow_apply (u : Fin 7 → Fin 14 → Vec Ideal S1x1x64x128 .bf16) (t : Fin 7 → Fin 7 → Vec Ideal S1x128 .bf16) (r : Fin 8)
    (w : Fin 64) (c : Fin 128) :
    convRow u t r (ix2 w c)
      = ∑ j : Fin 7, ∑ i : Fin 7, u j ⟨r.val + i.val, by omega⟩ (ix4 0 0 w c) * t j i (ix2 0 c) := by
  have hcol : ∀ (u : Fin 14 → Vec Ideal S1x1x64x128 .bf16) (t : Fin 7 → Vec Ideal S1x128 .bf16) (a : FVec Ideal S64x128 .bf16),
      convCol u t r a (ix2 w c) = a (ix2 w c) + ∑ i : Fin 7, u ⟨r.val + i.val, by omega⟩ (ix4 0 0 w c) * t i (ix2 0 c) := by
    intro u t a
    show ((((((_ + term _ _ (ix2 w c)) + term _ _ (ix2 w c)) + term _ _ (ix2 w c)) + term _ _ (ix2 w c)) + term _ _ (ix2 w c))
      + term _ _ (ix2 w c)) + term _ _ (ix2 w c) = _
    simp only [term_apply, Fin.sum_univ_seven, add_assoc]
    rfl
  have h0 : (broadcast S64x128 (Scalar.ofBits .bf16 0x0000#16) : FVec Ideal S64x128 .bf16) (ix2 w c) = 0 := by
    pointwise
  unfold convRow
  simp only [hcol, h0, Fin.sum_univ_seven (f := fun j => ∑ i : Fin 7, u j ⟨r.val + i.val, by omega⟩ (ix4 0 0 w c) * t j i (ix2 0 c)), zero_add]

/-- The strip at a row, column and channel. -/
theorem convStrip_apply (u : Fin 7 → Fin 14 → Vec Ideal S1x1x64x128 .bf16) (t : Fin 7 → Fin 7 → Vec Ideal S1x128 .bf16) (r : Fin 8)
    (w : Fin 64) (c : Fin 128) :
    convStrip u t (ix3 r w c)
      = ∑ j : Fin 7, ∑ i : Fin 7, u j ⟨r.val + i.val, by omega⟩ (ix4 0 0 w c) * t j i (ix2 0 c) := by
  refine Eq.trans ?_ (convRow_apply u t r w c)
  refine (concatenate_ofFn_unit_apply (s₁ := S1x64x128) (t := S8x64x128) 0
    (fun n : Fin 8 => shapeCast S1x64x128 (convRow u t n) shapeCasts_S64x128_S1x64x128) _ rfl rfl (ix3 r w c) r rfl (ix3 0 w c) ?_).trans ?_
  · intro b hb
    match b with
    | ⟨0, _⟩ => exact absurd rfl hb
    | ⟨1, _⟩ => rfl
    | ⟨2, _⟩ => rfl
  · pointwise

theorem pay463_apply (s : FVec Ideal S8x64x128 .bf16) (r : Fin 8) (w : Fin 56) (c : Fin 128) :
    k0_pay463 s (ix3 r w c) = s (ix3 r ⟨w.val, by omega⟩ c) := by
  pointwise [k0_pay463]

theorem pay464_apply (v : Vec Ideal S1x128 .f32) (r : Fin 8) (w : Fin 56) (c : Fin 128) :
    k0_pay464 v (ix3 r w c) = v (ix2 0 c) := by
  pointwise [k0_pay464]

/-- A channel of the stored strip from the activated hidden rows. -/
theorem pay921_apply (h : FVec Ideal S448x512 .bf16) (w2 : Vec Ideal S512x128 .bf16) (b2 gamma : Vec Ideal S1x128 .f32)
    (x : Vec Ideal S1x8x56x128 .f32) (r : Fin 8) (w : Fin 56) (o : Fin 128) :
    k0_pay921 h w2 b2 gamma x (ix4 0 r w o)
      = x (ix4 0 r w o) + ((∑ f, h (ix2 ⟨r.val * 56 + w.val, by omega⟩ f) * w2 (ix2 f o)) + b2 (ix2 0 o)) * gamma (ix2 0 o) := by
  pointwise [k0_pay921]

/-- The activated hidden row of pixel `p / 56`, `p % 56` of the strip. -/
theorem pay465_apply (s d : FVec Ideal S8x56x128 .f32) (lng lnb : Vec Ideal S1x128 .f32) (w1 : Vec Ideal S128x512 .bf16)
    (b1 : Vec Ideal S1x512 .f32) (p : Fin 448) (f : Fin 512) :
    k0_pay465 s d lng lnb w1 b1 (ix2 p f)
      = Spec.act (Spec.hidden
          (fun k => s (ix3 ⟨p.val / 56, by omega⟩ ⟨p.val % 56, by omega⟩ k) + d (ix3 ⟨p.val / 56, by omega⟩ ⟨p.val % 56, by omega⟩ k))
          (fun k => lng (ix2 0 k)) (fun k => lnb (ix2 0 k)) (fun k f => w1 (ix2 k f)) (fun f => b1 (ix2 0 f)) f) := by
  pointwise [k0_pay465]
  rfl

/-- A channel of the strip's result. -/
theorem mlpStrip_apply (s : FVec Ideal S8x64x128 .bf16) (dwb lng lnb : Vec Ideal S1x128 .f32) (w1 : Vec Ideal S128x512 .bf16)
    (b1 : Vec Ideal S1x512 .f32) (w2 : Vec Ideal S512x128 .bf16) (b2 gamma : Vec Ideal S1x128 .f32) (x : Vec Ideal S1x8x56x128 .f32)
    (r : Fin 8) (w : Fin 56) (o : Fin 128) :
    mlpStrip s dwb lng lnb w1 b1 w2 b2 gamma x (ix4 0 r w o)
      = Spec.out (x (ix4 0 r w o))
          (Spec.hidden (fun k => s (ix3 r ⟨w.val, by omega⟩ k) + dwb (ix2 0 k))
            (fun k => lng (ix2 0 k)) (fun k => lnb (ix2 0 k)) (fun k f => w1 (ix2 k f)) (fun f => b1 (ix2 0 f)))
          (fun f => w2 (ix2 f o)) (b2 (ix2 0 o)) (gamma (ix2 0 o)) := by
  have e1 : (r.val * 56 + w.val) / 56 = r.val := by omega
  have e2 : (r.val * 56 + w.val) % 56 = w.val := by omega
  unfold mlpStrip
  rw [pay921_apply]
  simp only [pay465_apply, e1, e2, Fin.eta, pay463_apply, pay464_apply]
  rfl

end Cert.KernelIdeal.Strip

end
-- ==== Proof.PlaneValue.lean ====
/- What the scratches hold: the first the image with a border of zeros, the second seven copies of it, plane `j` moved `j` columns. -/
module

public import proofs.«01_k».proof.Proof.BodyValue
public import proofs.«01_k».proof.Proof.StripValue
public import Idealize.ShloMosaic.Lib.Exec
public import Idealize.ShloMosaic.Lib.Tactic

@[expose] public section

set_option maxRecDepth 8192
set_option maxHeartbeats 4000000

noncomputable section

namespace Cert.KernelIdeal.Body

open Cert.KernelIdeal Cert.KernelIdeal.Gen Cert.KernelIdeal.Strip Cert.KernelIdeal.Trip
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Planes

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt F) (arg1.view.loc (c : Thread nD τ)))
  (X2 : Buf (Elt F) (arg2.view.loc (c : Thread nD τ)))
  (X3 : Buf (Elt F) (arg3.view.loc (c : Thread nD τ)))
  (X4 : Buf (Elt F) (arg4.view.loc (c : Thread nD τ)))
  (X5 : Buf (Elt F) (arg5.view.loc (c : Thread nD τ)))
  (X6 : Buf (Elt F) (arg6.view.loc (c : Thread nD τ)))
  (X7 : Buf (Elt F) (arg7.view.loc (c : Thread nD τ)))
  (X8 : Buf (Elt F) (arg8.view.loc (c : Thread nD τ)))
  (X9 : Buf (Elt F) (arg9.view.loc (c : Thread nD τ)))
  (X10 : Buf (Elt F) (arg10.view.loc (c : Thread nD τ)))
  (X11 : Buf (Elt F) (arg11.view.loc (c : Thread nD τ)))
  (X12 : Buf (Elt F) (arg12.view.loc (c : Thread nD τ)))
  (X13 : Buf (Elt F) (arg13.view.loc (c : Thread nD τ)))

/-- What the first scratch is stored: the image, onto zeros left, right, below and above. -/
def padPieces : List (View.Piece (Elt F) S62x72x128 .f32) :=
  [⟨Rect.unit (s := S62x72x128) ![3, 3, 0] S56x56x128.size inb_S62x72x128_S56x56x128_3_3_0,
      k0_pay470 (View.readAt (Elt F) arg1.view
        (Rect.unit (s := S1x56x56x128) ![0, 0, 0, 0] S1x56x56x128.size inb_S1x56x56x128_S1x56x56x128_0_0_0_0).toLoadRect X1)⟩,
   ⟨Rect.unit (s := S62x72x128) ![3, 59, 0] S56x3x128.size inb_S62x72x128_S56x3x128_3_59_0, k0_pay469⟩,
   ⟨Rect.unit (s := S62x72x128) ![3, 0, 0] S56x3x128.size inb_S62x72x128_S56x3x128_3_0_0, k0_pay468⟩,
   ⟨Rect.unit (s := S62x72x128) ![59, 0, 0] S3x72x128.size inb_S62x72x128_S3x72x128_59_0_0, k0_pay467⟩,
   ⟨Rect.unit (s := S62x72x128) ![0, 0, 0] S3x72x128.size inb_S62x72x128_S3x72x128_0_0_0, k0_pay466⟩]

theorem shift_inb (j : Fin 7) : ∀ a, (![0, j.val, 0] : Fin 3 → ℕ) a + S62x64x128.size a ≤ S62x72x128.size a := by
  revert j; decide

theorem plane_inb (j : Fin 7) : ∀ a, (![j.val, 0, 0, 0] : Fin 4 → ℕ) a + S1x62x64x128.size a ≤ S7x62x64x128.size a := by
  revert j; decide

/-- What plane `j` is stored: 64 columns of the first scratch from column `j` on. -/
def planeVal (j : Fin 7) : FVec F S1x62x64x128 .bf16 :=
  k0_pay472 (k0_pay471 (View.readAt (Elt F) arg12.view (Rect.unit (s := S62x72x128) ![0, j.val, 0] S62x64x128.size (shift_inb j)).toLoadRect
    (arg12.view.writes (Elt F) X12 (padPieces c arg1 X1))))

/-- The first `k` planes stored, the last first. -/
def planePieces : ℕ → List (View.Piece (Elt F) S7x62x64x128 .bf16)
  | 0 => []
  | k + 1 => if h : k < 7 then
      ⟨Rect.unit (s := S7x62x64x128) ![(⟨k, h⟩ : Fin 7).val, 0, 0, 0] S1x62x64x128.size (plane_inb ⟨k, h⟩), planeVal c arg1 arg12 X1 X12 ⟨k, h⟩⟩ :: planePieces k
    else planePieces k

theorem planes_pieces : (planes c arg1 arg12 arg13 X1 X12) = arg13.view.writes (Elt F) arg13.view.junk (planePieces c arg1 arg12 X1 X12 7) := rfl

theorem planePieces_succ (k : ℕ) (h : k < 7) : planePieces c arg1 arg12 X1 X12 (k + 1)
    = ⟨Rect.unit (s := S7x62x64x128) ![(⟨k, h⟩ : Fin 7).val, 0, 0, 0] S1x62x64x128.size (plane_inb ⟨k, h⟩), planeVal c arg1 arg12 X1 X12 ⟨k, h⟩⟩
      :: planePieces c arg1 arg12 X1 X12 k := dif_pos h

/-- The stored planes at plane `j`: what plane `j` was stored. -/
theorem canon_planes (k : ℕ) (hk : k ≤ 7) (j : Fin 7) (hj : j.val < k) (n : Fin 62) (w : Fin 64) (o : Fin 128) :
    View.canon (planePieces c arg1 arg12 X1 X12 k) (ix4 j n w o) = planeVal c arg1 arg12 X1 X12 j (ix4 0 n w o) := by
  induction k with
  | zero => exact absurd hj (Nat.not_lt_zero _)
  | succ k ih =>
    rw [planePieces_succ c arg1 arg12 X1 X12 k (by omega)]
    by_cases e : j.val = k
    · subst e
      have hi : (ix4 j n w o : S7x62x64x128.Idx)
          = (Rect.unit (s := S7x62x64x128) ![j.val, 0, 0, 0] S1x62x64x128.size (plane_inb j)).emb (ix4 0 n w o) := by
        funext a
        apply Fin.ext
        match a with
        | ⟨0, _⟩ => show j.val = j.val + 1 * 0; omega
        | ⟨1, _⟩ => show n.val = 0 + 1 * n.val; omega
        | ⟨2, _⟩ => show w.val = 0 + 1 * w.val; omega
        | ⟨3, _⟩ => show o.val = 0 + 1 * o.val; omega
      rw [hi]
      exact View.canon_cons_emb _ _ _ _
    · rw [View.canon_cons_of_not_mem]
      · exact ih (by omega) (by omega)
      · intro hm
        have h0 := (Rect.mem_set_unit (inb := plane_inb ⟨k, by omega⟩)).mp hm 0
        have h1 : k ≤ j.val ∧ j.val < k + 1 := h0
        omega

end Planes

section AtIdeal

variable (c : Dev nD) (arg1 : Memref sig .tc .vmem S1x56x56x128 .f32) (arg12 : Memref sig .tc .vmem S62x72x128 .f32)
  (arg13 : Memref sig .tc .vmem S7x62x64x128 .bf16)
  (X1 : Buf (Elt Ideal) (arg1.view.loc (c : Thread nD τ))) (X12 : Buf (Elt Ideal) (arg12.view.loc (c : Thread nD τ)))

/-- The image of a channel, as the input block holds it. -/
def image (o : Fin 128) (h w : Fin 56) : EReal := arg1.view.read (Elt Ideal) X1 (ix4 0 h w o)

/-- The image as it is loaded to be put into the first scratch. -/
theorem pay470_apply (x : S56x56x128.Idx) :
    k0_pay470 (F := Ideal) (View.readAt (Elt Ideal) arg1.view (Rect.unit (s := S1x56x56x128) ![0, 0, 0, 0] S1x56x56x128.size inb_S1x56x56x128_S1x56x56x128_0_0_0_0).toLoadRect X1) x
      = arg1.view.read (Elt Ideal) X1 (ix4 0 (x 0) (x 1) (x 2)) := by
  rw [View.readAt_eq_ld, View.ld_unit_zero (by funext a; match a with | ⟨0, _⟩ => rfl | ⟨1, _⟩ => rfl | ⟨2, _⟩ => rfl | ⟨3, _⟩ => rfl)]
  generalize View.read (Elt Ideal) arg1.view X1 = v
  obtain ⟨a, b, e, rfl⟩ : ∃ a b e, x = (ix3 a b e : S56x56x128.Idx) := ⟨_, _, _, eq_ix3 (n0 := 56) (n1 := 56) (n2 := 128) x⟩
  show _ = v (ix4 0 a b e)
  pointwise [k0_pay470]

/-- The first scratch holds the image with its border of zeros, up to column 61. -/
theorem pad_read (y : S62x72x128.Idx) (hy : (y 1).val < 62) :
    arg12.view.read (Elt Ideal) (arg12.view.writes (Elt Ideal) X12 (padPieces c arg1 X1)) y
      = Spec.padded (image c arg1 X1 (y 2)) (y 0).val (y 1).val := by
  have h0 : (y 0).val < 62 := (y 0).isLt
  have h2 : (y 2).val < 128 := (y 2).isLt
  have hcov : ∃ p ∈ padPieces c arg1 X1, y ∈ p.1.set := by
    unfold padPieces
    by_cases ha : (y 0).val < 3
    · refine ⟨_, .tail _ (.tail _ (.tail _ (.tail _ (.head _)))), ?_⟩
      refine (Rect.mem_set_unit (inb := inb_S62x72x128_S3x72x128_0_0_0)).mpr fun a => ?_
      match a with
      | ⟨0, _⟩ => show 0 ≤ (y 0).val ∧ (y 0).val < 0 + 3; omega
      | ⟨1, _⟩ => show 0 ≤ (y 1).val ∧ (y 1).val < 0 + 72; omega
      | ⟨2, _⟩ => show 0 ≤ (y 2).val ∧ (y 2).val < 0 + 128; omega
    by_cases hb : 59 ≤ (y 0).val
    · refine ⟨_, .tail _ (.tail _ (.tail _ (.head _))), ?_⟩
      refine (Rect.mem_set_unit (inb := inb_S62x72x128_S3x72x128_59_0_0)).mpr fun a => ?_
      match a with
      | ⟨0, _⟩ => show 59 ≤ (y 0).val ∧ (y 0).val < 59 + 3; omega
      | ⟨1, _⟩ => show 0 ≤ (y 1).val ∧ (y 1).val < 0 + 72; omega
      | ⟨2, _⟩ => show 0 ≤ (y 2).val ∧ (y 2).val < 0 + 128; omega
    by_cases hc : (y 1).val < 3
    · refine ⟨_, .tail _ (.tail _ (.head _)), ?_⟩
      refine (Rect.mem_set_unit (inb := inb_S62x72x128_S56x3x128_3_0_0)).mpr fun a => ?_
      match a with
      | ⟨0, _⟩ => show 3 ≤ (y 0).val ∧ (y 0).val < 3 + 56; omega
      | ⟨1, _⟩ => show 0 ≤ (y 1).val ∧ (y 1).val < 0 + 3; omega
      | ⟨2, _⟩ => show 0 ≤ (y 2).val ∧ (y 2).val < 0 + 128; omega
    by_cases hd : 59 ≤ (y 1).val
    · refine ⟨_, .tail _ (.head _), ?_⟩
      refine (Rect.mem_set_unit (inb := inb_S62x72x128_S56x3x128_3_59_0)).mpr fun a => ?_
      match a with
      | ⟨0, _⟩ => show 3 ≤ (y 0).val ∧ (y 0).val < 3 + 56; omega
      | ⟨1, _⟩ => show 59 ≤ (y 1).val ∧ (y 1).val < 59 + 3; omega
      | ⟨2, _⟩ => show 0 ≤ (y 2).val ∧ (y 2).val < 0 + 128; omega
    · refine ⟨_, .head _, ?_⟩
      refine (Rect.mem_set_unit (inb := inb_S62x72x128_S56x56x128_3_3_0)).mpr fun a => ?_
      match a with
      | ⟨0, _⟩ => show 3 ≤ (y 0).val ∧ (y 0).val < 3 + 56; omega
      | ⟨1, _⟩ => show 3 ≤ (y 1).val ∧ (y 1).val < 3 + 56; omega
      | ⟨2, _⟩ => show 0 ≤ (y 2).val ∧ (y 2).val < 0 + 128; omega
  rw [View.read_writes_apply_eq_canon _ _ _ _ hcov]
  refine View.canon_apply_of_pieces (fun y => Spec.padded (image c arg1 X1 (y 2)) (y 0).val (y 1).val) _ ?_ y hcov
  intro p hp x
  unfold padPieces at hp
  simp only [List.mem_cons, List.not_mem_nil, _root_.or_false] at hp
  rcases hp with rfl | rfl | rfl | rfl | rfl
  · have e0 : (x 0).val < 56 := (x 0).isLt
    have e1 : (x 1).val < 56 := (x 1).isLt
    show _ = Spec.padded (image c arg1 X1 ⟨0 + 1 * (x 2).val, _⟩) (3 + 1 * (x 0).val) (3 + 1 * (x 1).val)
    unfold Spec.padded
    rw [dif_pos (by omega)]
    refine (pay470_apply c arg1 X1 x).trans ?_
    unfold image
    congr 1
    funext a
    apply Fin.ext
    match a with
    | ⟨0, _⟩ => rfl
    | ⟨1, _⟩ => show (x 0).val = 3 + 1 * (x 0).val - 3; omega
    | ⟨2, _⟩ => show (x 1).val = 3 + 1 * (x 1).val - 3; omega
    | ⟨3, _⟩ => show (x 2).val = 0 + 1 * (x 2).val; omega
  · have e1 : (x 1).val < 3 := (x 1).isLt
    show k0_pay469 (F := Ideal) x = Spec.padded _ (3 + 1 * (x 0).val) (59 + 1 * (x 1).val)
    unfold Spec.padded
    rw [dif_neg (by omega)]
    pointwise [k0_pay469]
  · have e1 : (x 1).val < 3 := (x 1).isLt
    show k0_pay468 (F := Ideal) x = Spec.padded _ (3 + 1 * (x 0).val) (0 + 1 * (x 1).val)
    unfold Spec.padded
    rw [dif_neg (by omega)]
    pointwise [k0_pay468]
  · have e1 : (x 0).val < 3 := (x 0).isLt
    show k0_pay467 (F := Ideal) x = Spec.padded _ (59 + 1 * (x 0).val) (0 + 1 * (x 1).val)
    unfold Spec.padded
    rw [dif_neg (by omega)]
    pointwise [k0_pay467]
  · have e1 : (x 0).val < 3 := (x 0).isLt
    show k0_pay466 (F := Ideal) x = Spec.padded _ (0 + 1 * (x 0).val) (0 + 1 * (x 1).val)
    unfold Spec.padded
    rw [dif_neg (by omega)]
    pointwise [k0_pay466]

/-- Plane `j` as stored: the bordered image moved `j` columns, up to column 55. -/
theorem planeVal_apply (j : Fin 7) (n : Fin 62) (w : Fin 64) (hw : w.val < 56) (o : Fin 128) :
    planeVal c arg1 arg12 X1 X12 j (ix4 0 n w o) = Spec.padded (image c arg1 X1 o) n.val (w.val + j.val) := by
  unfold planeVal
  pointwise [k0_pay472, k0_pay471]
  rw [View.readAt_apply, pad_read]
  · show Spec.padded (image c arg1 X1 ⟨0 + 1 * o.val, _⟩) (0 + 1 * n.val) (j.val + 1 * w.val) = _
    have e1 : (⟨0 + 1 * o.val, by omega⟩ : Fin 128) = o := Fin.ext (by show 0 + 1 * o.val = o.val; omega)
    have e2 : 0 + 1 * n.val = n.val := by omega
    have e3 : j.val + 1 * w.val = w.val + j.val := by omega
    rw [e2, e3, e1]
  · show j.val + 1 * w.val < 62
    omega

/-- A line of a plane as loaded. -/
theorem lines_apply (h0 : Fin 49) (j : Fin 7) (n : Fin 14) (w : Fin 64) (hw : w.val < 56) (o : Fin 128) :
    lines c arg13 (planes c arg1 arg12 arg13 X1 X12) h0 j n (ix4 0 0 w o)
      = Spec.padded (image c arg1 X1 o) (h0.val + n.val) (w.val + j.val) := by
  unfold lines
  rw [planes_pieces, View.readAt_writes_junk_eq_canon]
  have hi : (Rect.unit (s := S7x62x64x128) ![j.val, h0.val + n.val, 0, 0] S1x1x64x128.size (line_inb h0 j n)).toLoadRect.idx (ix4 0 0 w o)
      = (ix4 j (⟨h0.val + n.val, by omega⟩ : Fin 62) w o : S7x62x64x128.Idx) := by
    funext a
    apply Fin.ext
    match a with
    | ⟨0, _⟩ => show j.val + 1 * 0 = j.val; omega
    | ⟨1, _⟩ => show h0.val + n.val + 1 * 0 = h0.val + n.val; omega
    | ⟨2, _⟩ => show 0 + 1 * w.val = w.val; omega
    | ⟨3, _⟩ => show 0 + 1 * o.val = o.val; omega
  show View.canon _ ((Rect.unit (s := S7x62x64x128) ![j.val, h0.val + n.val, 0, 0] S1x1x64x128.size (line_inb h0 j n)).toLoadRect.idx (ix4 0 0 w o)) = _
  rw [hi, canon_planes c arg1 arg12 X1 X12 7 le_rfl j j.isLt, planeVal_apply c arg1 arg12 X1 X12 j _ w hw o]

end AtIdeal

end Cert.KernelIdeal.Body

end
-- ==== Proof.Block.lean ====
/- What the body computes from its ten input blocks: pixel by pixel, the block's mathematics. -/
module

public import proofs.«01_k».proof.Proof.Strip
public import proofs.«01_k».proof.Proof.Spec
public import Idealize.ShloMosaic.Lib.Pointwise

@[expose] public section

noncomputable section

namespace Cert.KernelIdeal.Block

open Cert.KernelIdeal Cert.KernelIdeal.Gen
open Idealize.ShloMosaic

/-- The row of the filter's block that holds tap `i`, `j`. -/
abbrev tapAt (i j : Fin 7) : Fin 49 := ⟨7 * i.val + j.val, by omega⟩

/-- Channel `o` of the output at row `h`, column `w`. -/
def pixel (x : Vec Ideal S1x56x56x128 .f32) (t : Vec Ideal S49x128 .bf16) (dwb lng lnb : Vec Ideal S1x128 .f32)
    (w1 : Vec Ideal S128x512 .bf16) (b1 : Vec Ideal S1x512 .f32) (w2 : Vec Ideal S512x128 .bf16) (b2 gamma : Vec Ideal S1x128 .f32)
    (h w : Fin 56) (o : Fin 128) : EReal :=
  Spec.out (x (ix4 0 h w o))
    (Spec.hidden (fun k => Spec.conv (fun a b => x (ix4 0 a b k)) (fun i j => t (ix2 (tapAt i j) k)) h.val w.val + dwb (ix2 0 k))
      (fun k => lng (ix2 0 k)) (fun k => lnb (ix2 0 k)) (fun k f => w1 (ix2 k f)) (fun f => b1 (ix2 0 f)))
    (fun f => w2 (ix2 f o)) (b2 (ix2 0 o)) (gamma (ix2 0 o))

/-- The output block. -/
def block (x : Vec Ideal S1x56x56x128 .f32) (t : Vec Ideal S49x128 .bf16) (dwb lng lnb : Vec Ideal S1x128 .f32)
    (w1 : Vec Ideal S128x512 .bf16) (b1 : Vec Ideal S1x512 .f32) (w2 : Vec Ideal S512x128 .bf16) (b2 gamma : Vec Ideal S1x128 .f32) :
    Vec Ideal S1x56x56x128 .f32 :=
  fun y => pixel x t dwb lng lnb w1 b1 w2 b2 gamma (y 1) (y 2) (y 3)

end Cert.KernelIdeal.Block

end
-- ==== Proof.BlockValue.lean ====
/- What the body leaves in the output block: every pixel is the block's mathematics of the ten input blocks. -/
module

public import proofs.«01_k».proof.Proof.PlaneValue
public import proofs.«01_k».proof.Proof.Block
public import Idealize.ShloMosaic.Lib.Exec
public import Idealize.ShloMosaic.Lib.Tactic

@[expose] public section

set_option maxRecDepth 8192
set_option maxHeartbeats 4000000

noncomputable section

namespace Cert.KernelIdeal.Body

open Cert.KernelIdeal Cert.KernelIdeal.Gen Cert.KernelIdeal.Strip Cert.KernelIdeal.Trip Cert.KernelIdeal.Block
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

section BlockValue

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (X1 : Buf (Elt Ideal) (arg1.view.loc (c : Thread nD τ)))
  (X2 : Buf (Elt Ideal) (arg2.view.loc (c : Thread nD τ)))
  (X3 : Buf (Elt Ideal) (arg3.view.loc (c : Thread nD τ)))
  (X4 : Buf (Elt Ideal) (arg4.view.loc (c : Thread nD τ)))
  (X5 : Buf (Elt Ideal) (arg5.view.loc (c : Thread nD τ)))
  (X6 : Buf (Elt Ideal) (arg6.view.loc (c : Thread nD τ)))
  (X7 : Buf (Elt Ideal) (arg7.view.loc (c : Thread nD τ)))
  (X8 : Buf (Elt Ideal) (arg8.view.loc (c : Thread nD τ)))
  (X9 : Buf (Elt Ideal) (arg9.view.loc (c : Thread nD τ)))
  (X10 : Buf (Elt Ideal) (arg10.view.loc (c : Thread nD τ)))
  (X11 : Buf (Elt Ideal) (arg11.view.loc (c : Thread nD τ)))
  (X12 : Buf (Elt Ideal) (arg12.view.loc (c : Thread nD τ)))
  (X13 : Buf (Elt Ideal) (arg13.view.loc (c : Thread nD τ)))

theorem zeros₂ : (![0, 0] : Fin 2 → ℕ) = fun _ => 0 := by funext a; match a with | ⟨0, _⟩ => rfl | ⟨1, _⟩ => rfl

/-- A tap as loaded. -/
theorem taps_apply (j i : Fin 7) (k : Fin 128) :
    taps c arg2 X2 j i (ix2 0 k) = arg2.view.read (Elt Ideal) X2 (ix2 (tapAt i j) k) := by
  unfold taps
  rw [View.readAt_apply]
  congr 1
  funext a
  apply Fin.ext
  match a with
  | ⟨0, _⟩ => show 7 * i.val + j.val + 1 * 0 = 7 * i.val + j.val; omega
  | ⟨1, _⟩ => show 0 + 1 * k.val = k.val; omega

/-- A strip of the convolution. -/
theorem strip_apply (q : Fin 7) (r : Fin 8) (w : Fin 64) (hw : w.val < 56) (k : Fin 128) :
    strip c arg2 arg13 X2 (planes c arg1 arg12 arg13 X1 X12) q (ix3 r w k)
      = Spec.conv (image c arg1 X1 k) (fun i j => arg2.view.read (Elt Ideal) X2 (ix2 (tapAt i j) k)) (8 * q.val + r.val) w.val := by
  unfold strip
  rw [convStrip_apply]
  unfold Spec.conv
  refine Finset.sum_congr rfl fun j _ => Finset.sum_congr rfl fun i _ => ?_
  rw [lines_apply c arg1 arg12 arg13 X1 X12 _ j _ w hw k, taps_apply]
  show Spec.padded _ (8 * q.val + (r.val + i.val)) _ * _ = _
  rw [Nat.add_assoc]

/-- The rows of a strip of the input. -/
theorem rows_apply (q : Fin 7) (r : Fin 8) (w : Fin 56) (o : Fin 128) :
    View.readAt (Elt Ideal) arg1.view (rows q).toLoadRect X1 (ix4 0 r w o)
      = arg1.view.read (Elt Ideal) X1 (ix4 0 (⟨8 * q.val + r.val, by omega⟩ : Fin 56) w o) := by
  rw [View.readAt_apply]
  congr 1
  funext a
  apply Fin.ext
  match a with
  | ⟨0, _⟩ => rfl
  | ⟨1, _⟩ => show 8 * q.val + 1 * r.val = 8 * q.val + r.val; omega
  | ⟨2, _⟩ => show 0 + 1 * w.val = w.val; omega
  | ⟨3, _⟩ => show 0 + 1 * o.val = o.val; omega

theorem whole3 : (View.readAt (Elt Ideal) arg3.view (Rect.unit (s := S1x128) ![0, 0] S1x128.size inb_S1x128_S1x128_0_0).toLoadRect X3) = arg3.view.read (Elt Ideal) X3 := by
  rw [View.readAt_eq_ld]; exact View.ld_unit_zero zeros₂ _ _

theorem whole4 : (View.readAt (Elt Ideal) arg4.view (Rect.unit (s := S1x128) ![0, 0] S1x128.size inb_S1x128_S1x128_0_0).toLoadRect X4) = arg4.view.read (Elt Ideal) X4 := by
  rw [View.readAt_eq_ld]; exact View.ld_unit_zero zeros₂ _ _

theorem whole5 : (View.readAt (Elt Ideal) arg5.view (Rect.unit (s := S1x128) ![0, 0] S1x128.size inb_S1x128_S1x128_0_0).toLoadRect X5) = arg5.view.read (Elt Ideal) X5 := by
  rw [View.readAt_eq_ld]; exact View.ld_unit_zero zeros₂ _ _

theorem whole6 : (View.readAt (Elt Ideal) arg6.view (Rect.unit (s := S128x512) ![0, 0] S128x512.size inb_S128x512_S128x512_0_0).toLoadRect X6) = arg6.view.read (Elt Ideal) X6 := by
  rw [View.readAt_eq_ld]; exact View.ld_unit_zero zeros₂ _ _

theorem whole7 : (View.readAt (Elt Ideal) arg7.view (Rect.unit (s := S1x512) ![0, 0] S1x512.size inb_S1x512_S1x512_0_0).toLoadRect X7) = arg7.view.read (Elt Ideal) X7 := by
  rw [View.readAt_eq_ld]; exact View.ld_unit_zero zeros₂ _ _

theorem whole8 : (View.readAt (Elt Ideal) arg8.view (Rect.unit (s := S512x128) ![0, 0] S512x128.size inb_S512x128_S512x128_0_0).toLoadRect X8) = arg8.view.read (Elt Ideal) X8 := by
  rw [View.readAt_eq_ld]; exact View.ld_unit_zero zeros₂ _ _

theorem whole9 : (View.readAt (Elt Ideal) arg9.view (Rect.unit (s := S1x128) ![0, 0] S1x128.size inb_S1x128_S1x128_0_0).toLoadRect X9) = arg9.view.read (Elt Ideal) X9 := by
  rw [View.readAt_eq_ld]; exact View.ld_unit_zero zeros₂ _ _

theorem whole10 : (View.readAt (Elt Ideal) arg10.view (Rect.unit (s := S1x128) ![0, 0] S1x128.size inb_S1x128_S1x128_0_0).toLoadRect X10) = arg10.view.read (Elt Ideal) X10 := by
  rw [View.readAt_eq_ld]; exact View.ld_unit_zero zeros₂ _ _

/-- A strip as stored. -/
theorem outStrip_apply (q : Fin 7) (r : Fin 8) (w : Fin 56) (o : Fin 128) :
    outStrip c arg1 arg3 arg4 arg5 arg6 arg7 arg8 arg9 arg10 X1 X3 X4 X5 X6 X7 X8 X9 X10 (strip c arg2 arg13 X2 (planes c arg1 arg12 arg13 X1 X12) q) q (ix4 0 r w o)
      = pixel (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) (⟨8 * q.val + r.val, by omega⟩ : Fin 56) w o := by
  unfold outStrip
  rw [mlpStrip_apply, rows_apply, whole3, whole4, whole5, whole6, whole7, whole8, whole9, whole10]
  unfold pixel
  congr 2
  funext k
  exact congrArg (· + _) (strip_apply c arg1 arg2 arg12 arg13 X1 X2 X12 q r ⟨w.val, by omega⟩ w.isLt k)

/-- What the loop carries is the convolution of its trip's strip. -/
theorem carried_strip (k : ℕ) (h : k < 7) : carried c arg2 arg13 X2 (planes c arg1 arg12 arg13 X1 X12) (strip c arg2 arg13 X2 (planes c arg1 arg12 arg13 X1 X12) 0) k = (strip c arg2 arg13 X2 (planes c arg1 arg12 arg13 X1 X12) ⟨k, h⟩) := by
  match k with
  | 0 => rfl
  | k + 1 => exact carried_succ c arg2 arg13 X2 _ _ k h

/-- Every piece of the loop is a strip as stored. -/
theorem pieces_strip (k : ℕ) (hk : k ≤ 7) (p : View.Piece (Elt Ideal) S1x56x56x128 .f32)
    (hp : p ∈ pieces c arg1 arg2 arg3 arg4 arg5 arg6 arg7 arg8 arg9 arg10 arg13 X1 X2 X3 X4 X5 X6 X7 X8 X9 X10 (planes c arg1 arg12 arg13 X1 X12) (strip c arg2 arg13 X2 (planes c arg1 arg12 arg13 X1 X12) 0) k) :
    ∃ q : Fin 7, p = ⟨rows q, outStrip c arg1 arg3 arg4 arg5 arg6 arg7 arg8 arg9 arg10 X1 X3 X4 X5 X6 X7 X8 X9 X10 (strip c arg2 arg13 X2 (planes c arg1 arg12 arg13 X1 X12) q) q⟩ := by
  induction k with
  | zero => exact absurd hp (List.not_mem_nil)
  | succ k ih =>
    rw [pieces_succ (h := hk)] at hp
    rcases List.mem_cons.mp hp with rfl | hp
    · exact ⟨⟨k, hk⟩, by rw [carried_strip (h := hk)]⟩
    · exact ih (by omega) hp

/-- Every strip before the `k`-th is among the loop's pieces. -/
theorem strip_mem (k : ℕ) (hk : k ≤ 7) (q : Fin 7) (hq : q.val < k) :
    ∃ p ∈ pieces c arg1 arg2 arg3 arg4 arg5 arg6 arg7 arg8 arg9 arg10 arg13 X1 X2 X3 X4 X5 X6 X7 X8 X9 X10 (planes c arg1 arg12 arg13 X1 X12) (strip c arg2 arg13 X2 (planes c arg1 arg12 arg13 X1 X12) 0) k, p.1 = rows q := by
  induction k with
  | zero => omega
  | succ k ih =>
    rw [pieces_succ (h := hk)]
    rcases Nat.lt_succ_iff_lt_or_eq.mp hq with h | h
    · obtain ⟨p, hp, e⟩ := ih (by omega) h
      exact ⟨p, .tail _ hp, e⟩
    · exact ⟨_, .head _, congrArg rows (Fin.ext h.symm)⟩

/-- The output block as the body leaves it. -/
theorem block_read (f : Buf (Elt Ideal) (arg11.view.loc (c : Thread nD τ))) :
    arg11.view.read (Elt Ideal) (arg11.view.writes (Elt Ideal) f (bodyRun c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 X9 X10 X11 X12 X13).2.1) = block (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) := by
  funext y
  have h1 : (y 1).val < 56 := (y 1).isLt
  rw [stored]
  have hcov : ∀ y : S1x56x56x128.Idx, ∃ p ∈ (⟨rows 6, outStrip c arg1 arg3 arg4 arg5 arg6 arg7 arg8 arg9 arg10 X1 X3 X4 X5 X6 X7 X8 X9 X10 (strip c arg2 arg13 X2 (planes c arg1 arg12 arg13 X1 X12) 6) 6⟩ :: pieces c arg1 arg2 arg3 arg4 arg5 arg6 arg7 arg8 arg9 arg10 arg13 X1 X2 X3 X4 X5 X6 X7 X8 X9 X10 (planes c arg1 arg12 arg13 X1 X12) (strip c arg2 arg13 X2 (planes c arg1 arg12 arg13 X1 X12) 0) 6 : List (View.Piece (Elt Ideal) S1x56x56x128 .f32)), y ∈ p.1.set := by
    intro y
    have h0 : (y 0).val < 1 := (y 0).isLt
    have h1 : (y 1).val < 56 := (y 1).isLt
    have h2 : (y 2).val < 56 := (y 2).isLt
    have h3 : (y 3).val < 128 := (y 3).isLt
    have hin : ∀ q : Fin 7, q.val = (y 1).val / 8 → y ∈ (rows q).set := by
      intro q hq
      refine (Rect.mem_set_unit (inb := out_inb q)).mpr fun a => ?_
      match a with
      | ⟨0, _⟩ => show 0 ≤ (y 0).val ∧ (y 0).val < 0 + 1; omega
      | ⟨1, _⟩ => show 8 * q.val ≤ (y 1).val ∧ (y 1).val < 8 * q.val + 8; omega
      | ⟨2, _⟩ => show 0 ≤ (y 2).val ∧ (y 2).val < 0 + 56; omega
      | ⟨3, _⟩ => show 0 ≤ (y 3).val ∧ (y 3).val < 0 + 128; omega
    by_cases h : (y 1).val / 8 = 6
    · exact ⟨_, .head _, hin 6 h.symm⟩
    · obtain ⟨p, hp, e⟩ := strip_mem c arg1 arg2 arg3 arg4 arg5 arg6 arg7 arg8 arg9 arg10 arg12 arg13 X1 X2 X3 X4 X5 X6 X7 X8 X9 X10 X12 6 (by omega) ⟨(y 1).val / 8, by omega⟩ (by show (y 1).val / 8 < 6; omega)
      exact ⟨p, .tail _ hp, e ▸ hin _ rfl⟩
  rw [View.read_writes_apply_eq_canon _ _ _ _ (hcov y)]
  refine View.canon_apply_of_pieces (block (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10)) _ ?_ y (hcov y)
  intro p hp
  have hs : ∃ q : Fin 7, p = ⟨rows q, outStrip c arg1 arg3 arg4 arg5 arg6 arg7 arg8 arg9 arg10 X1 X3 X4 X5 X6 X7 X8 X9 X10 (strip c arg2 arg13 X2 (planes c arg1 arg12 arg13 X1 X12) q) q⟩ := by
    rcases List.mem_cons.mp hp with rfl | hp
    · exact ⟨6, rfl⟩
    · exact pieces_strip c arg1 arg2 arg3 arg4 arg5 arg6 arg7 arg8 arg9 arg10 arg12 arg13 X1 X2 X3 X4 X5 X6 X7 X8 X9 X10 X12 6 (by omega) p hp
  obtain ⟨q, rfl⟩ := hs
  intro x
  obtain ⟨a, r, w, o, rfl⟩ : ∃ (a : Fin 1) (r : Fin 8) (w : Fin 56) (o : Fin 128), x = (ix4 a r w o : S1x8x56x128.Idx) :=
    ⟨_, _, _, _, eq_ix4 (n0 := 1) (n1 := 8) (n2 := 56) (n3 := 128) x⟩
  obtain rfl : a = 0 := Subsingleton.elim _ _
  refine (outStrip_apply c arg1 arg2 arg3 arg4 arg5 arg6 arg7 arg8 arg9 arg10 arg12 arg13 X1 X2 X3 X4 X5 X6 X7 X8 X9 X10 X12 q r w o).trans ?_
  unfold block
  have e1 : (⟨8 * q.val + r.val, by omega⟩ : Fin 56) = (rows q).emb (ix4 0 r w o) 1 := Fin.ext (by show 8 * q.val + r.val = 8 * q.val + 1 * r.val; omega)
  have e2 : w = (rows q).emb (ix4 0 r w o) 2 := Fin.ext (by show w.val = 0 + 1 * w.val; omega)
  have e3 : o = (rows q).emb (ix4 0 r w o) 3 := Fin.ext (by show o.val = 0 + 1 * o.val; omega)
  exact congr (congr (congrArg _ e1) e2) e3

end BlockValue

end Cert.KernelIdeal.Body

end
-- ==== Proof.Launch.lean ====
/- The kernel's launch with exact contents: at every grid point the body leaves the block's mathematics of the ten input blocks
   in the output block, and every input block as it was. -/
module

public import proofs.«01_k».proof.Proof.BlockValue
public import proofs.«01_k».proof.Proof.Gen.KernelIdeal.Frame
public import Idealize.ShloMosaic.Lib.Exec
public import Idealize.ShloMosaic.Lib.Tactic

@[expose] public section

set_option maxRecDepth 8192
set_option maxHeartbeats 4000000

noncomputable section

namespace Cert.KernelIdeal.Launch

open Cert.KernelIdeal Cert.KernelIdeal.Gen Cert.KernelIdeal.Body Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section Body

variable (c : Dev nD) (i : grid0.Coords)
  (arg1 : Memref sig .tc .vmem S1x56x56x128 .f32) (harg1 : arg1.IsWhole)
  (arg2 : Memref sig .tc .vmem S49x128 .bf16) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x512 .bf16) (harg6 : arg6.IsWhole)
  (arg7 : Memref sig .tc .vmem S1x512 .f32) (harg7 : arg7.IsWhole)
  (arg8 : Memref sig .tc .vmem S512x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x56x56x128 .f32) (harg11 : arg11.IsWhole)
  (arg12 : Memref sig .tc .vmem S62x72x128 .f32) (harg12 : arg12.IsWhole)
  (arg13 : Memref sig .tc .vmem S7x62x64x128 .bf16) (harg13 : arg13.IsWhole)
  (d1 : Vec Ideal S1x56x56x128 .f32)
  (d2 : Vec Ideal S49x128 .bf16)
  (d3 : Vec Ideal S1x128 .f32)
  (d4 : Vec Ideal S1x128 .f32)
  (d5 : Vec Ideal S1x128 .f32)
  (d6 : Vec Ideal S128x512 .bf16)
  (d7 : Vec Ideal S1x512 .f32)
  (d8 : Vec Ideal S512x128 .bf16)
  (d9 : Vec Ideal S1x128 .f32)
  (d10 : Vec Ideal S1x128 .f32)

/-- The body from its input blocks at given contents: it hands them back with the block's mathematics of them in the output block. -/
theorem body_run (K : PUnit → sProp 𝕄) :
    iprop(owns (c : Thread nD τ) arg1 fullShare d1
    ∗ owns (c : Thread nD τ) arg2 fullShare d2
    ∗ owns (c : Thread nD τ) arg3 fullShare d3
    ∗ owns (c : Thread nD τ) arg4 fullShare d4
    ∗ owns (c : Thread nD τ) arg5 fullShare d5
    ∗ owns (c : Thread nD τ) arg6 fullShare d6
    ∗ owns (c : Thread nD τ) arg7 fullShare d7
    ∗ owns (c : Thread nD τ) arg8 fullShare d8
    ∗ owns (c : Thread nD τ) arg9 fullShare d9
    ∗ owns (c : Thread nD τ) arg10 fullShare d10
    ∗ (∃ d, owns (c : Thread nD τ) arg11 fullShare d)
    ∗ (∃ d, owns (c : Thread nD τ) arg12 fullShare d)
    ∗ (∃ d, owns (c : Thread nD τ) arg13 fullShare d)
    ∗ (iprop(owns (c : Thread nD τ) arg1 fullShare d1
    ∗ owns (c : Thread nD τ) arg2 fullShare d2
    ∗ owns (c : Thread nD τ) arg3 fullShare d3
    ∗ owns (c : Thread nD τ) arg4 fullShare d4
    ∗ owns (c : Thread nD τ) arg5 fullShare d5
    ∗ owns (c : Thread nD τ) arg6 fullShare d6
    ∗ owns (c : Thread nD τ) arg7 fullShare d7
    ∗ owns (c : Thread nD τ) arg8 fullShare d8
    ∗ owns (c : Thread nD τ) arg9 fullShare d9
    ∗ owns (c : Thread nD τ) arg10 fullShare d10
    ∗ owns (c : Thread nD τ) arg11 fullShare (block d1 d2 d3 d4 d5 d6 d7 d8 d9 d10)
    ∗ (∃ d, owns (c : Thread nD τ) arg12 fullShare d)
    ∗ (∃ d, owns (c : Thread nD τ) arg13 fullShare d)) -∗ K ⟨⟩))
      ⊢ wp frame (wpE (defs₀ (F := Ideal)) Variants.none c none) Set.univ
          (cc0_convnext_block (F := Ideal) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
  subst e1 e2 e3 e4 e5 e6 e7 e8 e9 e10
  iapply ((bodyRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13).2.2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨⟨H1, H2, H3, H4, H5, H6, H7, H8, H9, H10, H13⟩, ⟨%g12, H12⟩, ⟨%g11, H11⟩⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    · ipureintro
      exact block_read c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13 g11
    iexact H11
  isplitl [H12]
  · iexists _; iexists g12; isplitr; · ipureintro; rfl
    iexact H12
  iexists _; iexists ((bodyRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13).1); isplitr; · ipureintro; rfl
  iexact H13

end Body

section Launch

variable (m : (ℓ : Loc nD τ sig) → Buf (Elt Ideal) ℓ) (ρ : Dev nD → PrngReg)

/-- The output block of a grid point. -/
def blockAt (c : Dev nD) (t : Fin cfg0.N) : Vec Ideal S1x56x56x128 .f32 := block (iblk m c 0 t) (iblk m c 1 t) (iblk m c 2 t) (iblk m c 3 t) (iblk m c 4 t) (iblk m c 5 t) (iblk m c 6 t) (iblk m c 7 t) (iblk m c 8 t) (iblk m c 9 t)

/-- The proof data: the arrays as the region finds them, each input block left as it was, the output block at `blockAt`, the scratch at any contents. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => blockAt m c t
    | ⟨_ + 11, h⟩ => absurd h (Nat.not_lt.2 (Nat.le_add_left _ _))
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d

theorem before_1 (c : Dev nD) (t : Fin cfg0.N) (d) : (dats m 0 c).before 1 t d = iblk m c 1 t :=
  before0_1_of m (dats m 0 c) rfl (fun _ => rfl) t d

theorem before_2 (c : Dev nD) (t : Fin cfg0.N) (d) : (dats m 0 c).before 2 t d = iblk m c 2 t :=
  before0_2_of m (dats m 0 c) rfl (fun _ => rfl) t d

theorem before_3 (c : Dev nD) (t : Fin cfg0.N) (d) : (dats m 0 c).before 3 t d = iblk m c 3 t :=
  before0_3_of m (dats m 0 c) rfl (fun _ => rfl) t d

theorem before_4 (c : Dev nD) (t : Fin cfg0.N) (d) : (dats m 0 c).before 4 t d = iblk m c 4 t :=
  before0_4_of m (dats m 0 c) rfl (fun _ => rfl) t d

theorem before_5 (c : Dev nD) (t : Fin cfg0.N) (d) : (dats m 0 c).before 5 t d = iblk m c 5 t :=
  before0_5_of m (dats m 0 c) rfl (fun _ => rfl) t d

theorem before_6 (c : Dev nD) (t : Fin cfg0.N) (d) : (dats m 0 c).before 6 t d = iblk m c 6 t :=
  before0_6_of m (dats m 0 c) rfl (fun _ => rfl) t d

theorem before_7 (c : Dev nD) (t : Fin cfg0.N) (d) : (dats m 0 c).before 7 t d = iblk m c 7 t :=
  before0_7_of m (dats m 0 c) rfl (fun _ => rfl) t d

theorem before_8 (c : Dev nD) (t : Fin cfg0.N) (d) : (dats m 0 c).before 8 t d = iblk m c 8 t :=
  before0_8_of m (dats m 0 c) rfl (fun _ => rfl) t d

theorem before_9 (c : Dev nD) (t : Fin cfg0.N) (d) : (dats m 0 c).before 9 t d = iblk m c 9 t :=
  before0_9_of m (dats m 0 c) rfl (fun _ => rfl) t d

/-- What the body is called with at a point: the scratch, what is owed, and every window's buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it hands back: the scratch, what is owed, and every window's buffer at the proof data's contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The scratch as the region holds it: both buffers owned at some contents, and the generator register. -/
theorem scratch_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA
  rw [scopedRest0_eq]; simp only [owns_whole]

/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl,
    show (dats m 0 c).after 10 t = block (iblk m c 0 t) (iblk m c 1 t) (iblk m c 2 t) (iblk m c 3 t) (iblk m c 4 t) (iblk m c 5 t) (iblk m c 6 t) (iblk m c 7 t) (iblk m c 8 t) (iblk m c 9 t) from rfl]
  iintro ⟨⟨⟨HA, HB⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HA]; · iexact HA
  isplitl [HB]; · iexact HB
  iintro ⟨H0, H1, H2, H3, H4, H5, H6, H7, H8, H9, H10, HA, HB⟩
  isplitl [HA HB Hg]
  · isplitl [HA HB]
    · isplitl [HA]; · iexact HA
      iexact HB
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body at that point. -/
theorem defs₀_row (t : Fin cfg0.N) : defs₀ (F := Ideal) .tc cfg0.body (cfg0.bodyArgs t (cfg0.slots t)) = bodyAt0 t := by
  unfold defs₀; rw [Defs.onTc_tc]

/-- The body's triple in the form the launch asks for. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every fair execution terminates with every window's array at what the write-backs of the points make it, every other unscoped
    buffer at what the host operations make it, and every semaphore counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)
    (Q' := _) (hQ' := fun _ h => h)

end Launch

end Cert.KernelIdeal.Launch

end
-- ==== Proof.HostValue.lean ====
/- What the host operations before the kernel leave in the arrays of its windows, element by element. -/
module

public import proofs.«01_k».proof.Proof.Gen.KernelIdeal.Frame
public import proofs.«01_k».proof.Proof.Block
public import Idealize.ShloMosaic.Lib.Pointwise
public import Idealize.ShloMosaic.Lib.StableHlo.ReadAt

@[expose] public section

set_option maxRecDepth 8192
set_option maxHeartbeats 1000000

noncomputable section

namespace Cert.KernelIdeal.HostValue

open Cert.KernelIdeal Cert.KernelIdeal.Gen Cert.KernelIdeal.Block
open Idealize.ShloMosaic.Pointwise
open Idealize.ShloMosaic Idealize.ShloMosaic.TcCoe

variable (m : (ℓ : Loc nD τ sig) → Buf (Elt Ideal) ℓ) (c : Dev nD)

/-- The image, channels last. -/
theorem v0_apply (b : Fin 32) (h w : Fin 56) (k : Fin 128) :
    (V m c main_v0 : S32x56x56x128.Idx → EReal) (ix4 b h w k) = (m ((c : Thread nD τ).loc main_arg0) : S32x128x56x56.Idx → EReal) (ix4 b k h w) := by
  unfold V V0
  simp only [List.flatten_cons, List.flatten_nil, List.append_nil]
  after_reads_at

/-- The filter, its taps in rows. -/
theorem v4_apply (i j : Fin 7) (k : Fin 128) :
    (V m c main_v4 : S49x128.Idx → EReal) (ix2 (tapAt i j) k) = (m ((c : Thread nD τ).loc main_arg1) : S128x1x7x7.Idx → EReal) (ix4 k 0 i j) := by
  unfold V V0
  simp only [List.flatten_cons, List.flatten_nil, List.append_nil]
  after_reads_at
  simp only [show (7 * i.val + j.val) / 7 = i.val by omega, show (7 * i.val + j.val) % 7 = j.val by omega]

/-- The convolution's bias. -/
theorem v5_apply (k : Fin 128) :
    (V m c main_v5 : S1x128.Idx → EReal) (ix2 0 k) = (m ((c : Thread nD τ).loc main_arg2) : S128.Idx → EReal) (ix1 k) := by
  unfold V V0
  simp only [List.flatten_cons, List.flatten_nil, List.append_nil]
  after_reads_at

/-- The layer norm's scale. -/
theorem v6_apply (k : Fin 128) :
    (V m c main_v6 : S1x128.Idx → EReal) (ix2 0 k) = (m ((c : Thread nD τ).loc main_arg3) : S128.Idx → EReal) (ix1 k) := by
  unfold V V0
  simp only [List.flatten_cons, List.flatten_nil, List.append_nil]
  after_reads_at

/-- The layer norm's shift. -/
theorem v7_apply (k : Fin 128) :
    (V m c main_v7 : S1x128.Idx → EReal) (ix2 0 k) = (m ((c : Thread nD τ).loc main_arg4) : S128.Idx → EReal) (ix1 k) := by
  unfold V V0
  simp only [List.flatten_cons, List.flatten_nil, List.append_nil]
  after_reads_at

/-- The first linear layer. -/
theorem v8_apply (k : Fin 128) (f : Fin 512) :
    (V m c main_v8 : S128x512.Idx → EReal) (ix2 k f) = (m ((c : Thread nD τ).loc main_arg5) : S128x512.Idx → EReal) (ix2 k f) := by
  unfold V V0
  simp only [List.flatten_cons, List.flatten_nil, List.append_nil]
  after_reads_at

/-- The first linear layer's bias. -/
theorem v9_apply (k : Fin 512) :
    (V m c main_v9 : S1x512.Idx → EReal) (ix2 0 k) = (m ((c : Thread nD τ).loc main_arg6) : S512.Idx → EReal) (ix1 k) := by
  unfold V V0
  simp only [List.flatten_cons, List.flatten_nil, List.append_nil]
  after_reads_at

/-- The second linear layer, halved. -/
theorem v12_apply (f : Fin 512) (k : Fin 128) :
    (V m c main_v12 : S512x128.Idx → EReal) (ix2 f k)
      = Ideal.ofBits .f32 0x3F000000#32 * (m ((c : Thread nD τ).loc main_arg7) : S512x128.Idx → EReal) (ix2 f k) := by
  unfold V V0
  simp only [List.flatten_cons, List.flatten_nil, List.append_nil]
  after_reads_at

/-- The second linear layer's bias. -/
theorem v13_apply (k : Fin 128) :
    (V m c main_v13 : S1x128.Idx → EReal) (ix2 0 k) = (m ((c : Thread nD τ).loc main_arg8) : S128.Idx → EReal) (ix1 k) := by
  unfold V V0
  simp only [List.flatten_cons, List.flatten_nil, List.append_nil]
  after_reads_at

/-- The layer scale. -/
theorem v14_apply (k : Fin 128) :
    (V m c main_v14 : S1x128.Idx → EReal) (ix2 0 k) = (m ((c : Thread nD τ).loc main_arg9) : S128.Idx → EReal) (ix1 k) := by
  unfold V V0
  simp only [List.flatten_cons, List.flatten_nil, List.append_nil]
  after_reads_at

end Cert.KernelIdeal.HostValue

end
-- ==== Proof.KernelValue.lean ====
/- The kernel's result, pixel by pixel, as a function of its arguments. -/
module

public import proofs.«01_k».proof.Proof.Launch
public import proofs.«01_k».proof.Proof.HostValue
public import Idealize.ShloMosaic.Lib.Pipeline.ValueKit
public import Idealize.ShloMosaic.Lib.Pointwise
public import Idealize.ShloMosaic.Lib.StableHlo.ReadAt

@[expose] public section

set_option maxRecDepth 8192
set_option maxHeartbeats 1000000

noncomputable section

namespace Cert.KernelIdeal.Value

open Cert.KernelIdeal Cert.KernelIdeal.Gen Cert.KernelIdeal.Block Cert.KernelIdeal.Launch Cert.KernelIdeal.HostValue
open Idealize.ShloMosaic.Pointwise
open Idealize.ShloMosaic Idealize.ShloMosaic.TcCoe
open Idealize.SL.Sem

/-- Channel `o` of image `b` of the result at row `h`, column `w`, from the arguments. -/
def outPixel (x : S32x128x56x56.Idx → EReal) (dw : S128x1x7x7.Idx → EReal) (dwb lng lnb : S128.Idx → EReal)
    (w1 : S128x512.Idx → EReal) (b1 : S512.Idx → EReal) (w2 : S512x128.Idx → EReal) (b2 gamma : S128.Idx → EReal)
    (b : Fin 32) (o : Fin 128) (h w : Fin 56) : EReal :=
  Spec.out (x (ix4 b o h w))
    (Spec.hidden (fun k => Spec.conv (fun p q => x (ix4 b k p q)) (fun i j => dw (ix4 k 0 i j)) h.val w.val + dwb (ix1 k))
      (fun k => lng (ix1 k)) (fun k => lnb (ix1 k)) (fun k f => w1 (ix2 k f)) (fun f => b1 (ix1 f)))
    (fun f => Ideal.ofBits .f32 0x3F000000#32 * w2 (ix2 f o)) (b2 (ix1 o)) (gamma (ix1 o))

/-- A pixel of a block whose inputs are those of image `b` is that pixel of the result. -/
theorem pixel_congr {x : S32x128x56x56.Idx → EReal} {dw : S128x1x7x7.Idx → EReal} {dwb lng lnb : S128.Idx → EReal}
    {w1 : S128x512.Idx → EReal} {b1 : S512.Idx → EReal} {w2 : S512x128.Idx → EReal} {b2 gamma : S128.Idx → EReal} {b : Fin 32}
    {x' : S1x56x56x128.Idx → EReal} {t' : S49x128.Idx → EReal} {dwb' lng' lnb' : S1x128.Idx → EReal}
    {w1' : S128x512.Idx → EReal} {b1' : S1x512.Idx → EReal} {w2' : S512x128.Idx → EReal} {b2' gamma' : S1x128.Idx → EReal}
    (hx : ∀ h w k, x' (ix4 0 h w k) = x (ix4 b k h w)) (ht : ∀ i j k, t' (ix2 (tapAt i j) k) = dw (ix4 k 0 i j))
    (hdwb : ∀ k, dwb' (ix2 0 k) = dwb (ix1 k)) (hlng : ∀ k, lng' (ix2 0 k) = lng (ix1 k)) (hlnb : ∀ k, lnb' (ix2 0 k) = lnb (ix1 k))
    (hw1 : ∀ k f, w1' (ix2 k f) = w1 (ix2 k f)) (hb1 : ∀ f, b1' (ix2 0 f) = b1 (ix1 f))
    (hw2 : ∀ f k, w2' (ix2 f k) = Ideal.ofBits .f32 0x3F000000#32 * w2 (ix2 f k)) (hb2 : ∀ k, b2' (ix2 0 k) = b2 (ix1 k))
    (hgamma : ∀ k, gamma' (ix2 0 k) = gamma (ix1 k)) (h w : Fin 56) (o : Fin 128) :
    pixel x' t' dwb' lng' lnb' w1' b1' w2' b2' gamma' h w o = outPixel x dw dwb lng lnb w1 b1 w2 b2 gamma b o h w := by
  unfold pixel outPixel
  simp only [hx, ht, hdwb, hlng, hlnb, hw1, hb1, hw2, hb2, hgamma]

section Run

variable (m : (ℓ : Loc nD τ sig) → Buf (Elt Ideal) ℓ) (ρ : Dev nD → PrngReg)

/-- The same of the arguments as launched. -/
def pix (c : Dev nD) (b : Fin 32) (o : Fin 128) (h w : Fin 56) : EReal :=
  outPixel (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b o h w

/-- The image a grid point works on. -/
abbrev batch (t : Fin cfg0.N) : Fin 32 := ⟨t.val, t.isLt⟩

theorem index0 : ∀ t : Fin cfg0.N, win0_0.index t (0 : Fin 4) = t.val ∧ win0_0.index t (1 : Fin 4) = 0 ∧ win0_0.index t (2 : Fin 4) = 0
    ∧ win0_0.index t (3 : Fin 4) = 0 := (by decide +kernel : ∀ t : Fin grid0.N, _)

theorem index10 : ∀ t : Fin cfg0.N, win0_10.index t (0 : Fin 4) = t.val ∧ win0_10.index t (1 : Fin 4) = 0 ∧ win0_10.index t (2 : Fin 4) = 0
    ∧ win0_10.index t (3 : Fin 4) = 0 := (by decide +kernel : ∀ t : Fin grid0.N, _)

/-- The image's block at a point is the point's image. -/
theorem iblk0_apply (c : Dev nD) (t : Fin cfg0.N) (h w : Fin 56) (k : Fin 128) :
    (iblk m c 0 t : S1x56x56x128.Idx → EReal) (ix4 0 h w k) = (V m c main_v0 : S32x56x56x128.Idx → EReal) (ix4 (batch t) h w k) := by
  obtain ⟨e0, e1, e2, e3⟩ := index0 t
  show (V m c main_v0 : S32x56x56x128.Idx → EReal) ((win0_0.blk t).view.emb (ix4 0 h w k)) = _
  congr 1
  funext a
  apply Fin.ext
  match a with
  | ⟨0, _⟩ => show win0_0.index t (0 : Fin 4) * 1 + 1 * 0 = t.val; omega
  | ⟨1, _⟩ => show win0_0.index t (1 : Fin 4) * 56 + 1 * h.val = h.val; omega
  | ⟨2, _⟩ => show win0_0.index t (2 : Fin 4) * 56 + 1 * w.val = w.val; omega
  | ⟨3, _⟩ => show win0_0.index t (3 : Fin 4) * 128 + 1 * k.val = k.val; omega

theorem iblk1_eq (c : Dev nD) (t : Fin cfg0.N) : (iblk m c 1 t : S49x128.Idx → EReal) = V m c main_v4 := by
  have e : ∀ t : Fin cfg0.N, win0_1.index t (0 : Fin 2) = 0 ∧ win0_1.index t (1 : Fin 2) = 0 := (by decide +kernel : ∀ t : Fin grid0.N, _)
  obtain ⟨e0, e1⟩ := e t
  funext y
  show (V m c main_v4 : S49x128.Idx → EReal) ((win0_1.blk t).view.emb y) = _
  congr 1
  funext a
  apply Fin.ext
  match a with
  | ⟨0, _⟩ => show win0_1.index t (0 : Fin 2) * 49 + 1 * (y 0).val = (y 0).val; omega
  | ⟨1, _⟩ => show win0_1.index t (1 : Fin 2) * 128 + 1 * (y 1).val = (y 1).val; omega

theorem iblk2_eq (c : Dev nD) (t : Fin cfg0.N) : (iblk m c 2 t : S1x128.Idx → EReal) = V m c main_v5 := by
  have e : ∀ t : Fin cfg0.N, win0_2.index t (0 : Fin 2) = 0 ∧ win0_2.index t (1 : Fin 2) = 0 := (by decide +kernel : ∀ t : Fin grid0.N, _)
  obtain ⟨e0, e1⟩ := e t
  funext y
  show (V m c main_v5 : S1x128.Idx → EReal) ((win0_2.blk t).view.emb y) = _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk3_eq (c : Dev nD) (t : Fin cfg0.N) : (iblk m c 3 t : S1x128.Idx → EReal) = V m c main_v6 := by
  have e : ∀ t : Fin cfg0.N, win0_3.index t (0 : Fin 2) = 0 ∧ win0_3.index t (1 : Fin 2) = 0 := (by decide +kernel : ∀ t : Fin grid0.N, _)
  obtain ⟨e0, e1⟩ := e t
  funext y
  show (V m c main_v6 : S1x128.Idx → EReal) ((win0_3.blk t).view.emb y) = _
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem iblk4_eq (c : Dev nD) (t : Fin cfg0.N) : (iblk m c 4 t : S1x128.Idx → EReal) = V m c main_v7 := by
  have e : ∀ t : Fin cfg0.N, win0_4.index t (0 : Fin 2) = 0 ∧ win0_4.index t (1 : Fin 2) = 0 := (by decide +kernel : ∀ t : Fin grid0.N, _)
  obtain ⟨e0, e1⟩ := e t
  funext y
  show (V m c main_v7 : S1x128.Idx → EReal) ((win0_4.blk t).view.emb y) = _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem iblk5_eq (c : Dev nD) (t : Fin cfg0.N) : (iblk m c 5 t : S128x512.Idx → EReal) = V m c main_v8 := by
  have e : ∀ t : Fin cfg0.N, win0_5.index t (0 : Fin 2) = 0 ∧ win0_5.index t (1 : Fin 2) = 0 := (by decide +kernel : ∀ t : Fin grid0.N, _)
  obtain ⟨e0, e1⟩ := e t
  funext y
  show (V m c main_v8 : S128x512.Idx → EReal) ((win0_5.blk t).view.emb y) = _
  congr 1
  funext a
  apply Fin.ext
  match a with
  | ⟨0, _⟩ => show win0_5.index t (0 : Fin 2) * 128 + 1 * (y 0).val = (y 0).val; omega
  | ⟨1, _⟩ => show win0_5.index t (1 : Fin 2) * 512 + 1 * (y 1).val = (y 1).val; omega

theorem iblk6_eq (c : Dev nD) (t : Fin cfg0.N) : (iblk m c 6 t : S1x512.Idx → EReal) = V m c main_v9 := by
  have e : ∀ t : Fin cfg0.N, win0_6.index t (0 : Fin 2) = 0 ∧ win0_6.index t (1 : Fin 2) = 0 := (by decide +kernel : ∀ t : Fin grid0.N, _)
  obtain ⟨e0, e1⟩ := e t
  funext y
  show (V m c main_v9 : S1x512.Idx → EReal) ((win0_6.blk t).view.emb y) = _
  congr 1
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem iblk7_eq (c : Dev nD) (t : Fin cfg0.N) : (iblk m c 7 t : S512x128.Idx → EReal) = V m c main_v12 := by
  have e : ∀ t : Fin cfg0.N, win0_7.index t (0 : Fin 2) = 0 ∧ win0_7.index t (1 : Fin 2) = 0 := (by decide +kernel : ∀ t : Fin grid0.N, _)
  obtain ⟨e0, e1⟩ := e t
  funext y
  show (V m c main_v12 : S512x128.Idx → EReal) ((win0_7.blk t).view.emb y) = _
  congr 1
  funext a
  apply Fin.ext
  match a with
  | ⟨0, _⟩ => show win0_7.index t (0 : Fin 2) * 512 + 1 * (y 0).val = (y 0).val; omega
  | ⟨1, _⟩ => show win0_7.index t (1 : Fin 2) * 128 + 1 * (y 1).val = (y 1).val; omega

theorem iblk8_eq (c : Dev nD) (t : Fin cfg0.N) : (iblk m c 8 t : S1x128.Idx → EReal) = V m c main_v13 := by
  have e : ∀ t : Fin cfg0.N, win0_8.index t (0 : Fin 2) = 0 ∧ win0_8.index t (1 : Fin 2) = 0 := (by decide +kernel : ∀ t : Fin grid0.N, _)
  obtain ⟨e0, e1⟩ := e t
  funext y
  show (V m c main_v13 : S1x128.Idx → EReal) ((win0_8.blk t).view.emb y) = _
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem iblk9_eq (c : Dev nD) (t : Fin cfg0.N) : (iblk m c 9 t : S1x128.Idx → EReal) = V m c main_v14 := by
  have e : ∀ t : Fin cfg0.N, win0_9.index t (0 : Fin 2) = 0 ∧ win0_9.index t (1 : Fin 2) = 0 := (by decide +kernel : ∀ t : Fin grid0.N, _)
  obtain ⟨e0, e1⟩ := e t
  funext y
  show (V m c main_v14 : S1x128.Idx → EReal) ((win0_9.blk t).view.emb y) = _
  congr 1
  funext a
  apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- The output block of a point, from the arguments. -/
theorem blockAt_apply (c : Dev nD) (t : Fin cfg0.N) (h w : Fin 56) (o : Fin 128) :
    blockAt m c t (ix4 0 h w o) = pix m c (batch t) o h w := by
  exact pixel_congr (fun h w k => (iblk0_apply m c t h w k).trans (v0_apply m c _ _ _ _)) (fun i j k => (congrFun (iblk1_eq m c t) _).trans (v4_apply m c i j k))
    (fun k => (congrFun (iblk2_eq m c t) _).trans (v5_apply m c k)) (fun k => (congrFun (iblk3_eq m c t) _).trans (v6_apply m c k))
    (fun k => (congrFun (iblk4_eq m c t) _).trans (v7_apply m c k)) (fun k f => (congrFun (iblk5_eq m c t) _).trans (v8_apply m c k f))
    (fun f => (congrFun (iblk6_eq m c t) _).trans (v9_apply m c f)) (fun f k => (congrFun (iblk7_eq m c t) _).trans (v12_apply m c f k))
    (fun k => (congrFun (iblk8_eq m c t) _).trans (v13_apply m c k)) (fun k => (congrFun (iblk9_eq m c t) _).trans (v14_apply m c k)) h w o

/-- The kernel's array, channels last. -/
def array (c : Dev nD) : S32x56x56x128.Idx → EReal := fun y => pix m c (y 0) (y 3) (y 1) (y 2)

/-- The result array, channels first. -/
def result (c : Dev nD) : S32x128x56x56.Idx → EReal := fun y => pix m c (y 0) (y 1) (y 2) (y 3)

/-- The kernel's array after the run. -/
theorem array_eq (c : Dev nD) : (dats m 0 c).arrAt 10 cfg0.N = array m c := by
  refine (dats m 0 c).arrAt_eq_of_covers 10 (array m c) (by decide +kernel) fun t hf y => ?_
  obtain ⟨e0, e1, e2, e3⟩ := index10 t
  obtain ⟨a, h, w, o, rfl⟩ : ∃ (a : Fin 1) (h w : Fin 56) (o : Fin 128), y = (ix4 a h w o : S1x56x56x128.Idx) :=
    ⟨_, _, _, _, eq_ix4 (n0 := 1) (n1 := 56) (n2 := 56) (n3 := 128) y⟩
  obtain rfl : a = 0 := Subsingleton.elim _ _
  refine (blockAt_apply m c t h w o).trans ?_
  unfold array
  have h0 : batch t = (win0_10.blk t).view.emb (ix4 0 h w o) 0 := Fin.ext (by show t.val = win0_10.index t (0 : Fin 4) * 1 + 1 * 0; omega)
  have h1 : h = (win0_10.blk t).view.emb (ix4 0 h w o) 1 := Fin.ext (by show h.val = win0_10.index t (1 : Fin 4) * 56 + 1 * h.val; omega)
  have h2 : w = (win0_10.blk t).view.emb (ix4 0 h w o) 2 := Fin.ext (by show w.val = win0_10.index t (2 : Fin 4) * 56 + 1 * w.val; omega)
  have h3 : o = (win0_10.blk t).view.emb (ix4 0 h w o) 3 := Fin.ext (by show o.val = win0_10.index t (3 : Fin 4) * 128 + 1 * o.val; omega)
  exact congr (congr (congr (congrArg _ h0) h3) h1) h2

/-- The result after the transposition. -/
theorem tail_eq (c : Dev nD) : Pipeline.afterTail₀ cfgs (dats m) 0 (V0 m) [hostOps1] c main_v16 = result m c := by
  funext y
  obtain ⟨b, o, h, w, rfl⟩ : ∃ (b : Fin 32) (o : Fin 128) (h w : Fin 56), y = (ix4 b o h w : S32x128x56x56.Idx) :=
    ⟨_, _, _, _, eq_ix4 (n0 := 32) (n1 := 128) (n2 := 56) (n3 := 56) y⟩
  unfold Pipeline.afterTail₀
  simp only [List.flatten_cons, List.flatten_nil, List.append_nil]
  after_reads_at
  have e := Pipeline.withArrays_arr spec0 launch0.win.arr_inj c (V0 m c) (fun w => (dats m 0 c).arrAt w cfg0.N) 10
  exact (congrFun (e.trans (array_eq m c)) (ix4 b h w o : S32x56x56x128.Idx))

/-- Every fair execution of the kernel ends with the result at `result`, every argument as launched, every semaphore counter at zero. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h.1 c).2 main_v16 (Pipeline.mem_restRefs_of main_v16 (by decide) (by decide))).trans (tail_eq m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c),
    ((h.1 c).2 main_arg8 (Pipeline.mem_restRefs_of main_arg8 (by decide) (by decide))).trans (W_main_arg8 m (dats m) c),
    ((h.1 c).2 main_arg9 (Pipeline.mem_restRefs_of main_arg9 (by decide) (by decide))).trans (W_main_arg9 m (dats m) c)⟩) (run_main m ρ)

end Run

end Cert.KernelIdeal.Value

end
-- ==== Proof.RefValue.lean ====
/- The reference's result, pixel by pixel, as a function of its arguments. -/
module

public import proofs.«01_k».proof.Proof.Gen.ReferenceIdeal.Run
public import proofs.«01_k».proof.Proof.Spec
public import Idealize.ShloMosaic.Lib.Pointwise

@[expose] public section

set_option maxRecDepth 8192
set_option maxHeartbeats 2000000

noncomputable section

namespace Cert.ReferenceIdeal.RefValue

open Cert.ReferenceIdeal Cert.ReferenceIdeal.Value
open Idealize.ShloMosaic.Pointwise
open Idealize.ShloMosaic Idealize.ShloMosaic.TcCoe

variable (V0 : Valuation τ sig (Elt Ideal))

/-- The padded image. -/
theorem v0_apply (b : Fin 32) (k : Fin 128) (p q : Fin 62) :
    (res_main_v0 V0 : S32x128x62x62.Idx → EReal) (ix4 b k p q)
      = Spec.padded (fun h w => (V0 (Proc.devRef .tc main_arg0) : S32x128x56x56.Idx → EReal) (ix4 b k h w)) p.val q.val := by
  pointwise [res_main_v0]
  have hp := p.isLt
  have hq := q.isLt
  have hb := b.isLt
  have hk := k.isLt
  unfold Spec.padded
  by_cases h : (3 ≤ p.val ∧ p.val < 59) ∧ (3 ≤ q.val ∧ q.val < 59)
  · rw [dif_pos h, dif_pos]
    intro a
    match a with
    | ⟨0, _⟩ => show 0 ≤ b.val ∧ (b.val - 0) % 1 = 0 ∧ (b.val - 0) / 1 < 32; omega
    | ⟨1, _⟩ => show 0 ≤ k.val ∧ (k.val - 0) % 1 = 0 ∧ (k.val - 0) / 1 < 128; omega
    | ⟨2, _⟩ => show 3 ≤ p.val ∧ (p.val - 3) % 1 = 0 ∧ (p.val - 3) / 1 < 56; omega
    | ⟨3, _⟩ => show 3 ≤ q.val ∧ (q.val - 3) % 1 = 0 ∧ (q.val - 3) / 1 < 56; omega
  · rw [dif_neg h, dif_neg]
    · show (((0#32 : BitVec 32).toInt : ℝ) : EReal) = 0
      simp
    · intro H
      have h2 : 3 ≤ p.val ∧ (p.val - 3) % 1 = 0 ∧ (p.val - 3) / 1 < 56 := H (2 : Fin 4)
      have h3 : 3 ≤ q.val ∧ (q.val - 3) % 1 = 0 ∧ (q.val - 3) / 1 < 56 := H (3 : Fin 4)
      omega

/-- The 49 taps, one after the other. -/
theorem sum_taps (g : Fin 7 → Fin 7 → EReal) :
    ∑ j, ∑ i, g i j = ∑ i, (g i 0 + g i 1 + g i 2 + g i 3 + g i 4 + g i 5 + g i 6) := by
  rw [Finset.sum_comm]
  exact Finset.sum_congr rfl fun i _ => Fin.sum_univ_seven _

/-- The convolution, with its bias. -/
theorem v347_apply (b : Fin 32) (k : Fin 128) (h w : Fin 56) :
    (res_main_v347 V0 : S32x128x56x56.Idx → EReal) (ix4 b k h w)
      = Spec.conv (fun p q => (V0 (Proc.devRef .tc main_arg0) : S32x128x56x56.Idx → EReal) (ix4 b k p q))
          (fun i j => (V0 (Proc.devRef .tc main_arg1) : S128x1x7x7.Idx → EReal) (ix4 k 0 i j)) h.val w.val
        + (V0 (Proc.devRef .tc main_arg2) : S128.Idx → EReal) (ix1 k) := by
  pointwise [res_main_v347, res_main_v281, res_main_v211, res_main_v141, res_main_v71]
  simp only [v0_apply]
  unfold Spec.conv
  rw [sum_taps]
  simp only [Fin.sum_univ_seven, Fin.coe_ofNat_eq_mod, Nat.reduceMod, Nat.add_zero, Nat.add_comm h.val, Nat.add_comm w.val, Nat.zero_add, add_assoc]

theorem v348_apply (b : Fin 32) (k : Fin 128) (h w : Fin 56) :
    (res_main_v348 V0 : S32x56x56x128.Idx → EReal) (ix4 b h w k) = (res_main_v347 V0 : S32x128x56x56.Idx → EReal) (ix4 b k h w) := by
  pointwise [res_main_v348]

/-- The hidden row. -/
theorem v376_apply (b : Fin 32) (h w : Fin 56) (f : Fin 512) :
    (res_main_v376 V0 : S32x56x56x512.Idx → EReal) (ix4 b h w f)
      = Spec.hidden (fun k => (res_main_v347 V0 : S32x128x56x56.Idx → EReal) (ix4 b k h w))
          (fun k => (V0 (Proc.devRef .tc main_arg3) : S128.Idx → EReal) (ix1 k)) (fun k => (V0 (Proc.devRef .tc main_arg4) : S128.Idx → EReal) (ix1 k))
          (fun k f => (V0 (Proc.devRef .tc main_arg5) : S128x512.Idx → EReal) (ix2 k f)) (fun f => (V0 (Proc.devRef .tc main_arg6) : S512.Idx → EReal) (ix1 f)) f := by
  pointwise [res_main_v376, res_main_v354, res_main_v352]
  simp only [v348_apply]
  rfl

end Cert.ReferenceIdeal.RefValue

end
-- ==== Proof.Equation.lean ====
/- Where the layer norm's and the first linear layer's parameters are real the hidden row is real, and there the kernel's output expression and the reference's are equal. -/
module

public import proofs.«01_k».proof.Proof.Spec
public import Idealize.ShloMosaic.PureOps.Ideal.Laws

@[expose] public section

noncomputable section

namespace Cert.Spec

open Idealize.ShloMosaic

/-- An extended real that is a real. -/
def IsReal (e : EReal) : Prop := ∃ r : ℝ, e = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {n : ℕ} {f : Fin n → EReal} (h : ∀ i, IsReal (f i)) : IsReal (∑ i, f i) :=
  Finset.sum_induction f IsReal (fun _ _ => IsReal.add) ⟨0, EReal.coe_zero.symm⟩ fun i _ => h i

/-- The divisor of the mean is the real 128. -/
theorem ofBits_128 : Ideal.ofBits .f32 0x43000000#32 = ((128 : ℝ) : EReal) := by
  simp [Ideal.ofBits, Ideal.ieee, -EReal.coe_mul]; norm_num

/-- The layer norm's epsilon is a positive real. -/
theorem ofBits_eps : ∃ r : ℝ, 0 < r ∧ Ideal.ofBits .f32 0x358637BD#32 = (r : EReal) := by
  refine ⟨8796093 / 8796093022208, by norm_num, ?_⟩
  simp [Ideal.ofBits, Ideal.ieee, -EReal.coe_mul]; norm_num

theorem mean_eq (v : Fin 128 → EReal) : mean v = (∑ k, v k) * ((1 / 128 : ℝ) : EReal) := by
  rw [mean, ofBits_128, Ideal.div_coe (by norm_num)]

theorem IsReal.mean {v : Fin 128 → EReal} (h : ∀ k, IsReal (v k)) : IsReal (mean v) := by
  rw [mean_eq]
  exact (IsReal.sum h).mul ⟨_, rfl⟩

/-- The variance of a real row is a real, and not negative. -/
theorem var_real {v : Fin 128 → EReal} (h : ∀ k, IsReal (v k)) : ∃ r : ℝ, 0 ≤ r ∧ var v = (r : EReal) := by
  have hd (k : Fin 128) : ∃ r : ℝ, 0 ≤ r ∧ (v k - Spec.mean v) * (v k - Spec.mean v) = (r : EReal) := by
    obtain ⟨r, hr⟩ := (h k).sub (IsReal.mean h)
    exact ⟨r * r, mul_self_nonneg r, by rw [hr, EReal.coe_mul]⟩
  choose d hd0 hd using hd
  refine ⟨(∑ k, d k) * (1 / 128), mul_nonneg (Finset.sum_nonneg fun k _ => hd0 k) (by norm_num), ?_⟩
  have hs : ∑ k, (v k - Spec.mean v) * (v k - Spec.mean v) = ((∑ k, d k : ℝ) : EReal) := by
    simp only [hd]
    exact (map_sum (⟨⟨Real.toEReal, EReal.coe_zero⟩, EReal.coe_add⟩ : ℝ →+ EReal) d Finset.univ).symm
  rw [var, mean_eq, hs, EReal.coe_mul]

/-- A sum of two is real only when both are. -/
theorem IsReal.of_add {a b : EReal} (h : IsReal (a + b)) : IsReal a ∧ IsReal b := by
  obtain ⟨r, hr⟩ := h
  induction a with
  | bot => rw [EReal.bot_add] at hr; exact absurd hr (EReal.bot_ne_coe r)
  | top =>
    induction b with
    | bot => rw [EReal.add_bot] at hr; exact absurd hr (EReal.bot_ne_coe r)
    | top => rw [EReal.top_add_top] at hr; exact absurd hr (EReal.top_ne_coe r)
    | coe s => rw [EReal.top_add_coe] at hr; exact absurd hr (EReal.top_ne_coe r)
  | coe s =>
    induction b with
    | bot => rw [EReal.add_bot] at hr; exact absurd hr (EReal.bot_ne_coe r)
    | top => rw [EReal.coe_add_top] at hr; exact absurd hr (EReal.top_ne_coe r)
    | coe t => exact ⟨⟨s, rfl⟩, ⟨t, rfl⟩⟩

/-- A mean is real only when every member of the row is. -/
theorem IsReal.of_mean {v : Fin 128 → EReal} (h : IsReal (Spec.mean v)) (k : Fin 128) : IsReal (v k) := by
  have hs : IsReal (∑ k, v k) := by
    rw [mean_eq] at h
    obtain ⟨r, hr⟩ := h
    revert hr
    generalize ∑ k, v k = s
    intro hr
    induction s with
    | bot => rw [EReal.bot_mul_coe_of_pos (by norm_num)] at hr; exact absurd hr (EReal.bot_ne_coe r)
    | top => rw [EReal.top_mul_coe_of_pos (by norm_num)] at hr; exact absurd hr (EReal.top_ne_coe r)
    | coe t => exact ⟨t, rfl⟩
  rw [← Finset.add_sum_erase _ _ (Finset.mem_univ k)] at hs
  exact hs.of_add.1

/-- The square of an extended real that is not a real is infinity. -/
theorem sq_of_not_real {a : EReal} (h : ¬IsReal a) : a * a = ⊤ := by
  induction a with
  | bot => exact EReal.bot_mul_bot
  | top => exact EReal.top_mul_top
  | coe r => exact absurd ⟨r, rfl⟩ h

/-- A row with an infinity has infinite variance. -/
theorem var_of_not_real {v : Fin 128 → EReal} (h : ¬∀ k, IsReal (v k)) : var v = ⊤ := by
  have hm : ¬IsReal (Spec.mean v) := fun hm => h (IsReal.of_mean hm)
  have hd (k : Fin 128) : (v k - Spec.mean v) * (v k - Spec.mean v) = ⊤ := by
    refine sq_of_not_real fun hr => hm ?_
    rw [sub_eq_add_neg] at hr
    obtain ⟨r, e⟩ := hr.of_add.2
    exact ⟨-r, by rw [← neg_neg (Spec.mean v), e, EReal.coe_neg]⟩
  have hs : (∑ _k : Fin 128, (⊤ : EReal)) = ⊤ := by
    rw [Fin.sum_univ_succ]
    exact EReal.top_add_of_ne_bot (ne_of_gt (lt_of_lt_of_le EReal.bot_lt_zero (Finset.sum_nonneg fun _ _ => le_top)))
  rw [var, mean_eq]
  simp only [hd]
  rw [hs, EReal.top_mul_coe_of_pos (by norm_num)]

/-- The layer norm of any row is real: where the row has an infinity, its variance is infinite and the normed row zero. -/
theorem IsReal.normed (v : Fin 128 → EReal) (k : Fin 128) : IsReal (normed v k) := by
  obtain ⟨s, hs, e'⟩ := ofBits_eps
  unfold Spec.normed
  by_cases h : ∀ k, IsReal (v k)
  · refine ((h k).sub (IsReal.mean h)).mul ?_
    obtain ⟨r, hr, e⟩ := var_real h
    have hp : 0 < r + s := by linarith
    rw [e, e', ← EReal.coe_add, Ideal.rsqrt_coe, if_neg (not_lt.mpr hp.le), if_neg hp.ne']
    exact ⟨_, rfl⟩
  · rw [var_of_not_real h, e', EReal.top_add_coe, Ideal.rsqrt_top, mul_zero]
    exact ⟨0, EReal.coe_zero.symm⟩

/-- The hidden row is real whatever the convolution gave, when the layer norm's and the first linear layer's parameters are. -/
theorem IsReal.hidden {v g b : Fin 128 → EReal} {w1 : Fin 128 → Fin 512 → EReal} {b1 : Fin 512 → EReal}
    (hg : ∀ k, IsReal (g k)) (hb : ∀ k, IsReal (b k)) (hw : ∀ k f, IsReal (w1 k f)) (hb1 : ∀ f, IsReal (b1 f)) (f : Fin 512) :
    IsReal (hidden v g b w1 b1 f) :=
  (IsReal.sum fun k => (((IsReal.normed v k).mul (hg k)).add (hb k)).mul (hw k f)).add (hb1 f)

/-- The error function is real everywhere. -/
theorem IsReal.erf (x : EReal) : IsReal (Ideal.erf x) := by
  induction x with
  | bot => exact ⟨-1, by rw [Ideal.erf_bot]; norm_num⟩
  | top => exact ⟨1, by rw [Ideal.erf_top]; norm_num⟩
  | coe r => exact ⟨_, Ideal.erf_coe r⟩

/-- At a real the kernel's activation is the argument times one plus the error function. -/
theorem act_eq {h : EReal} (hh : IsReal h) : act h = h * Ideal.erfc (-h * Ideal.ofBits .f32 0x3F3504F3#32) := by
  rw [EReal.neg_mul, Ideal.erfc_neg, act]
  obtain ⟨r, rfl⟩ := hh
  obtain ⟨s, hs⟩ := IsReal.erf ((r : EReal) * Ideal.ofBits .f32 0x3F3504F3#32)
  rw [hs, ← EReal.coe_one, ← EReal.coe_mul, ← EReal.coe_add, ← EReal.coe_add, ← EReal.coe_mul]
  congr 1
  ring

/-- The reference's channel of the result from the hidden row. -/
def refOut (x : EReal) (h : Fin 512 → EReal) (w2 : Fin 512 → EReal) (b2 gamma : EReal) : EReal :=
  x + gamma * ((∑ f, (Ideal.ofBits .f32 0x3F000000#32 * h f * Ideal.erfc (-h f * Ideal.ofBits .f32 0x3F3504F3#32)) * w2 f) + b2)

/-- On a real hidden row, the kernel's halved second weights and the reference's gelu give one result. -/
theorem out_eq_refOut {h : Fin 512 → EReal} (hh : ∀ f, IsReal (h f)) (x : EReal) (w2 : Fin 512 → EReal) (b2 gamma : EReal) :
    out x h (fun f => Ideal.ofBits .f32 0x3F000000#32 * w2 f) b2 gamma = refOut x h w2 b2 gamma := by
  unfold out refOut
  rw [mul_comm gamma]
  congr 3
  refine Finset.sum_congr rfl fun f _ => ?_
  beta_reduce
  rw [act_eq (hh f)]
  ac_rfl

end Cert.Spec

end
-- ==== Proof.RefResult.lean ====
/- The reference's result array: at every index the same function of the arguments, the gelu by the complementary error function. -/
module

public import proofs.«01_k».proof.Proof.RefValue
public import proofs.«01_k».proof.Proof.Equation

@[expose] public section

set_option maxRecDepth 8192
set_option maxHeartbeats 2000000

noncomputable section

namespace Cert.ReferenceIdeal.RefValue

open Cert.ReferenceIdeal Cert.ReferenceIdeal.Gen Cert.ReferenceIdeal.Value
open Idealize.ShloMosaic.Pointwise
open Idealize.ShloMosaic Idealize.ShloMosaic.TcCoe

/-- The reference at channel `o` of pixel `(h, w)` of image `b`, as a function of the arguments. -/
def refPixel (x : S32x128x56x56.Idx → EReal) (dw : S128x1x7x7.Idx → EReal) (dwb lng lnb : S128.Idx → EReal)
    (w1 : S128x512.Idx → EReal) (b1 : S512.Idx → EReal) (w2 : S512x128.Idx → EReal) (b2 gamma : S128.Idx → EReal)
    (b : Fin 32) (o : Fin 128) (h w : Fin 56) : EReal :=
  Spec.refOut (x (ix4 b o h w))
    (Spec.hidden (fun k => Spec.conv (fun p q => x (ix4 b k p q)) (fun i j => dw (ix4 k 0 i j)) h.val w.val + dwb (ix1 k))
      (fun k => lng (ix1 k)) (fun k => lnb (ix1 k)) (fun k f => w1 (ix2 k f)) (fun f => b1 (ix1 f)))
    (fun f => w2 (ix2 f o)) (b2 (ix1 o)) (gamma (ix1 o))

variable (V0 : Valuation τ sig (Elt Ideal))

/-- The result as the reference's operations compose it. -/
def composed : S32x128x56x56.Idx → EReal :=
  addf (F := Ideal) (V0 (Proc.devRef .tc main_arg0)) (transpose S32x128x56x56 [0, 3, 1, 2] (mulf (broadcastInDim S32x56x56x128 ![0, 1, 2, 3] bcast_S1x1x1x128_S32x56x56x128_0_1_2_3 (broadcastInDim S1x1x1x128 ![3] bcast_S128_S1x1x1x128_3 (V0 (Proc.devRef .tc main_arg9)))) (addf (Host.dotGeneral (φ₂ := .f32) dot_S32x56x56x512_S512x128_S32x56x56x128_3_0_012_1_n_n none (mulf (mulf (broadcastInDim S32x56x56x512 ![] bcast_S_S32x56x56x512 (constant S_ .f32 0x3F000000#32)) (res_main_v376 V0)) (Host.erfc (mulf (Host.negf (res_main_v376 V0)) (broadcastInDim S32x56x56x512 ![] bcast_S_S32x56x56x512 (constant S_ .f32 0x3F3504F3#32))))) (V0 (Proc.devRef .tc main_arg7))) (broadcastInDim S32x56x56x128 ![0, 1, 2, 3] bcast_S1x1x1x128_S32x56x56x128_0_1_2_3 (broadcastInDim S1x1x1x128 ![3] bcast_S128_S1x1x1x128_3 (V0 (Proc.devRef .tc main_arg8)))))) transposes_S32x56x56x128_S32x128x56x56_0_3_1_2)

/-- The composed result at an index. -/
theorem composed_apply (b : Fin 32) (o : Fin 128) (h w : Fin 56) :
    composed V0 (ix4 b o h w)
      = refPixel (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) b o h w := by
  have e (f : Fin 512) := (v376_apply V0 b h w f).trans
    (congrArg (fun v => Spec.hidden v _ _ _ _ f) (funext fun k => v347_apply V0 b k h w))
  unfold composed
  pointwise
  simp only [e]
  rfl

end Cert.ReferenceIdeal.RefValue

end
-- ==== Proof.Finite.lean ====
/- The precondition: the four arguments it names are real at every index. -/
module

public import proofs.«01_k».proof.Defs
public import proofs.«01_k».proof.Proof.Equation
public import Idealize.ShloMosaic.Lib.Pointwise

@[expose] public section

noncomputable section

namespace Cert.Pre_finite

open Idealize.ShloMosaic

/-- The shape relations of the precondition's operations. -/
theorem facts : Facts where
  bcast_S_S128 := by decide
  bcast_S_S128x512 := by decide
  bcast_S_S512 := by decide

/-- The pattern of the bound is infinity. -/
theorem ofBits_top : Ideal.ofBits .f32 0x7F800000#32 = ⊤ := by
  simp [Ideal.ofBits, Ideal.ieee]

/-- An extended real of absolute value below infinity is a real. -/
theorem real_of_lt {a : EReal} (h : Ideal.cmp .olt (max a (-a)) (Ideal.ofBits .f32 0x7F800000#32) = 1#1) :
    Cert.Spec.IsReal a := by
  rw [ofBits_top] at h
  have h' : max a (-a) < ⊤ := by
    by_contra hn
    simp [Ideal.cmp, hn] at h
  obtain ⟨h1, h2⟩ := max_lt_iff.mp h'
  induction a with
  | bot => exact absurd h2 (by simp)
  | top => exact absurd h1 (by simp)
  | coe r => exact ⟨r, rfl⟩

/-- An array below infinity in absolute value everywhere, by the precondition's operations, is real everywhere. -/
theorem real_of_ones {s : Shape} (hb : S_.BroadcastsInDim s (![] : Fin 0 → Fin s.rank)) {x : FVec Ideal s .f32}
    (h : cmpf .olt (Host.absf x) (broadcastInDim s ![] hb (constant S_ .f32 0x7F800000#32)) = fun _ => 1#1) (i : s.Idx) :
    Cert.Spec.IsReal (x i) :=
  real_of_lt (congrFun h i)

end Cert.Pre_finite

namespace Cert.KernelIdeal

open Idealize.ShloMosaic Idealize.ShloMosaic.TcCoe

attribute [local instance] Cert.Pre_finite.facts

variable {m : (ℓ : Loc nD τ sig) → Buf (Elt Ideal) ℓ}

/-- Under the precondition the layer norm's scale and shift and the first linear layer's weights and bias are real on every device. -/
theorem real_of_pre (h : Cert.Pre_KernelIdeal_finite m) (c : Dev nD) :
    (∀ i, Cert.Spec.IsReal ((m ((c.tc : Thread nD τ).loc main_arg3) : S128.Idx → EReal) i))
    ∧ (∀ i, Cert.Spec.IsReal ((m ((c.tc : Thread nD τ).loc main_arg4) : S128.Idx → EReal) i))
    ∧ (∀ i, Cert.Spec.IsReal ((m ((c.tc : Thread nD τ).loc main_arg5) : S128x512.Idx → EReal) i))
    ∧ (∀ i, Cert.Spec.IsReal ((m ((c.tc : Thread nD τ).loc main_arg6) : S512.Idx → EReal) i)) := by
  obtain ⟨h3, h4, h5, h6⟩ := h c
  exact ⟨Cert.Pre_finite.real_of_ones _ h3, Cert.Pre_finite.real_of_ones _ h4, Cert.Pre_finite.real_of_ones _ h5,
    Cert.Pre_finite.real_of_ones _ h6⟩

end Cert.KernelIdeal

end
-- ==== Proof.Agree.lean ====
/- The two results agree: under the precondition, from memories agreeing on the arguments, the kernel's result array is the
   reference's. -/
module

public import proofs.«01_k».proof.Proof.KernelValue
public import proofs.«01_k».proof.Proof.RefResult
public import proofs.«01_k».proof.Proof.Finite

@[expose] public section

noncomputable section

namespace Cert.Agree

open Idealize.ShloMosaic Idealize.ShloMosaic.TcCoe

attribute [local instance] Cert.Pre_finite.facts

/-- Where the layer norm's and the first linear layer's parameters are real, the kernel's pixel is the reference's. -/
theorem outPixel_eq {lng lnb : KernelIdeal.S128.Idx → EReal} {w1 : KernelIdeal.S128x512.Idx → EReal} {b1 : KernelIdeal.S512.Idx → EReal}
    (hlng : ∀ i, Spec.IsReal (lng i)) (hlnb : ∀ i, Spec.IsReal (lnb i)) (hw1 : ∀ i, Spec.IsReal (w1 i)) (hb1 : ∀ i, Spec.IsReal (b1 i))
    (x : KernelIdeal.S32x128x56x56.Idx → EReal) (dw : KernelIdeal.S128x1x7x7.Idx → EReal) (dwb : KernelIdeal.S128.Idx → EReal)
    (w2 : KernelIdeal.S512x128.Idx → EReal) (b2 gamma : KernelIdeal.S128.Idx → EReal) (b : Fin 32) (o : Fin 128) (h w : Fin 56) :
    KernelIdeal.Value.outPixel x dw dwb lng lnb w1 b1 w2 b2 gamma b o h w
      = ReferenceIdeal.RefValue.refPixel x dw dwb lng lnb w1 b1 w2 b2 gamma b o h w :=
  Spec.out_eq_refOut (Spec.IsReal.hidden (fun _ => hlng _) (fun _ => hlnb _) (fun _ _ => hw1 _) (fun _ => hb1 _)) _ _ _ _

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

/-- The reference's composed result is the kernel's result array. -/
theorem composed_eq (hp : Pre_KernelIdeal_finite m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9)) :
    ReferenceIdeal.RefValue.composed (StableHlo.launchContents m' c) = KernelIdeal.Value.result m c := by
  obtain ⟨r3, r4, r5, r6⟩ := KernelIdeal.real_of_pre hp c
  funext y
  obtain ⟨b, o, h, w, rfl⟩ : ∃ (b : Fin 32) (o : Fin 128) (h w : Fin 56), y = (ix4 b o h w : ReferenceIdeal.S32x128x56x56.Idx) :=
    ⟨_, _, _, _, eq_ix4 (n0 := 32) (n1 := 128) (n2 := 56) (n3 := 56) y⟩
  have agree {x x' : ReferenceIdeal.S32x128x56x56.Idx → EReal} {dw dw' : ReferenceIdeal.S128x1x7x7.Idx → EReal}
      {dwb dwb' lng lng' lnb lnb' : ReferenceIdeal.S128.Idx → EReal} {w1 w1' : ReferenceIdeal.S128x512.Idx → EReal}
      {b1 b1' : ReferenceIdeal.S512.Idx → EReal} {w2 w2' : ReferenceIdeal.S512x128.Idx → EReal}
      {b2 b2' gamma gamma' : ReferenceIdeal.S128.Idx → EReal} (e0 : x' = x) (e1 : dw' = dw) (e2 : dwb' = dwb) (e3 : lng' = lng)
      (e4 : lnb' = lnb) (e5 : w1' = w1) (e6 : b1' = b1) (e7 : w2' = w2) (e8 : b2' = b2) (e9 : gamma' = gamma) :
      ReferenceIdeal.RefValue.refPixel x' dw' dwb' lng' lnb' w1' b1' w2' b2' gamma' b o h w
        = ReferenceIdeal.RefValue.refPixel x dw dwb lng lnb w1 b1 w2 b2 gamma b o h w := by
    subst e0 e1 e2 e3 e4 e5 e6 e7 e8 e9
    rfl
  exact (ReferenceIdeal.RefValue.composed_apply _ b o h w).trans
    ((agree h0 h1 h2 h3 h4 h5 h6 h7 h8 h9).trans (outPixel_eq r3 r4 r5 r6 _ _ _ _ _ _ b o h w).symm)

end Cert.Agree

end
-- ==== Proof.lean ====
/- The claims, assembled: the frames of the kernel, of its idealization and of the reference, the relation between the kernel and its
   idealization, and that the idealization's result is the reference's. -/
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

attribute [local instance] Cert.Pre_finite.facts

/-- The reference terminates with its arguments as launched; it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Under the precondition, from memories agreeing on the arguments, the kernel's idealization and the reference both run and end
    with equal results. -/
theorem algebraic : Cert.algebraic_KernelIdeal_ReferenceIdeal_pre_finite := fun m g m' g' hp ha =>
  ⟨Cert.KernelIdeal.Value.result m, Cert.KernelIdeal.Value.run m g,
    (θ_run Cert.ReferenceIdeal.defs _ _).mono
      (fun _ h c => by
        obtain ⟨h0, h1, h2, h3, h4, h5, h6, h7, h8, h9⟩ := ha c
        exact ⟨(h c).1.trans (Cert.Agree.composed_eq hp c h0 h1 h2 h3 h4 h5 h6 h7 h8 h9), (h c).2⟩)
      (Cert.ReferenceIdeal.Value.run (F := Ideal) m' g')⟩

/-- The frames, that the idealization took no rewriting, and that it computes the reference. -/
theorem claim : Cert.Claim :=
  ⟨Cert.Kernel.Gen.facts, Cert.KernelIdeal.Gen.facts, Cert.ReferenceIdeal.Gen.facts, Cert.Pre_finite.facts,
    fun m ρ _ => Cert.Kernel.Frame.frame_run m ρ,
    fun m ρ _ => Cert.KernelIdeal.Frame.frame_run m ρ,
    fun m ρ _ => Cert.KernelIdeal.Frame.frame_run m ρ,
    reference_frame,
    fun m ρ _ => reference_frame m ρ trivial,
    trivial, algebraic⟩

end Cert.Proof

end
